-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_1) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v63_0) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S3x2048x8192 : Shape := ⟨3, ![3, 2048, 8192]⟩
abbrev S8192x10240 : Shape := ⟨2, ![8192, 10240]⟩
abbrev S10240 : Shape := ⟨1, ![10240]⟩
abbrev S8192x16 : Shape := ⟨2, ![8192, 16]⟩
abbrev S16 : Shape := ⟨1, ![16]⟩
abbrev S3x2048x2 : Shape := ⟨3, ![3, 2048, 2]⟩
abbrev S8192x384 : Shape := ⟨2, ![8192, 384]⟩
abbrev S384x10240 : Shape := ⟨2, ![384, 10240]⟩
abbrev S_ : Shape := ⟨0, ![]⟩

class Facts : Prop where
  bcast_S_S3x2048x8192 : S_.BroadcastsInDim S3x2048x8192 (![] : Fin 0 → Fin S3x2048x8192.rank)
  reducesTo_S3x2048x8192_S_d0_1_2 : S3x2048x8192.ReducesTo [0, 1, 2] S_
  h_S_ : 0 < S_.numel
  bcast_S_S3x2048x2 : S_.BroadcastsInDim S3x2048x2 (![] : Fin 0 → Fin S3x2048x2.rank)
  reducesTo_S3x2048x2_S_d0_1_2 : S3x2048x2.ReducesTo [0, 1, 2] S_

variable [Facts]

def fn {F : FTy → Type} [FloatOps F] (main_arg0 : FVec F S3x2048x8192 .bf16) (main_arg1 : FVec F S8192x10240 .fp8e4m3) (main_arg2 : FVec F S10240 .f32) (main_arg3 : FVec F S8192x16 .bf16) (main_arg4 : FVec F S16 .f32) (main_arg5 : IVec S3x2048x2 32) (main_arg6 : FVec F S8192x384 .bf16) (main_arg7 : FVec F S384x10240 .bf16) : IVec S_ 1 :=
  let main_v0 : FVec F S3x2048x8192 .bf16 := Host.absf main_arg0
  let main_cst : FVec F S_ .bf16 := constant S_ .bf16 0x7F7F#16
  let main_v1 : FVec F S3x2048x8192 .bf16 := broadcastInDim S3x2048x8192 ![] bcast_S_S3x2048x8192 main_cst
  let main_v2 : IVec S3x2048x8192 1 := cmpf .ole main_v0 main_v1
  let main_c : IVec S_ 1 := constantI S_ 1 1#1
  let main_v3 : IVec S_ 1 := (fun x v => Host.reduce IntOp.andi x v reducesTo_S3x2048x8192_S_d0_1_2 h_S_) main_v2 main_c
  let main_c_0 : IVec S_ 32 := constantI S_ 32 0#32
  let main_v4 : IVec S3x2048x2 32 := broadcastInDim S3x2048x2 ![] bcast_S_S3x2048x2 main_c_0
  let main_v5 : IVec S3x2048x2 1 := cmpi .sge main_arg5 main_v4
  let main_c_1 : IVec S_ 32 := constantI S_ 32 16#32
  let main_v6 : IVec S3x2048x2 32 := broadcastInDim S3x2048x2 ![] bcast_S_S3x2048x2 main_c_1
  let main_v7 : IVec S3x2048x2 1 := cmpi .slt main_arg5 main_v6
  let main_v8 : IVec S3x2048x2 1 := andi main_v5 main_v7
  let main_c_2 : IVec S_ 1 := constantI S_ 1 1#1
  let main_v9 : IVec S_ 1 := (fun x v => Host.reduce IntOp.andi x v reducesTo_S3x2048x2_S_d0_1_2 h_S_) main_v8 main_c_2
  let main_v10 : IVec S_ 1 := andi main_v3 main_v9
  main_v10
-- ==== Kernel.lean ====
abbrev S3x2048x8192 : Shape := ⟨3, ![3, 2048, 8192]⟩
abbrev S8192x10240 : Shape := ⟨2, ![8192, 10240]⟩
abbrev S10240 : Shape := ⟨1, ![10240]⟩
abbrev S8192x16 : Shape := ⟨2, ![8192, 16]⟩
abbrev S16 : Shape := ⟨1, ![16]⟩
abbrev S3x2048x2 : Shape := ⟨3, ![3, 2048, 2]⟩
abbrev S8192x384 : Shape := ⟨2, ![8192, 384]⟩
abbrev S384x10240 : Shape := ⟨2, ![384, 10240]⟩
abbrev S6144x8192 : Shape := ⟨2, ![6144, 8192]⟩
abbrev S6144x2 : Shape := ⟨2, ![6144, 2]⟩
abbrev S1x16 : Shape := ⟨2, ![1, 16]⟩
abbrev S6144x1 : Shape := ⟨2, ![6144, 1]⟩
abbrev S6144x384 : Shape := ⟨2, ![6144, 384]⟩
abbrev S256x8192 : Shape := ⟨2, ![256, 8192]⟩
abbrev S256x2 : Shape := ⟨2, ![256, 2]⟩
abbrev S256x1 : Shape := ⟨2, ![256, 1]⟩
abbrev S256x384 : Shape := ⟨2, ![256, 384]⟩
abbrev S256 : Shape := ⟨1, ![256]⟩
abbrev S256x16 : Shape := ⟨2, ![256, 16]⟩
abbrev S1x10240 : Shape := ⟨2, ![1, 10240]⟩
abbrev S6144x10240 : Shape := ⟨2, ![6144, 10240]⟩
abbrev S1024x8192 : Shape := ⟨2, ![1024, 8192]⟩
abbrev S8192x1024 : Shape := ⟨2, ![8192, 1024]⟩
abbrev S1024x1 : Shape := ⟨2, ![1024, 1]⟩
abbrev S1x1024 : Shape := ⟨2, ![1, 1024]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 17
  | .vmem => 29
  | .smem => 0
  | _ => 0

abbrev bufTy : (tb : Table) → Fin (tcTables nBuf tb) → BufTy
  | .hbm, ⟨0, _⟩ => ⟨S3x2048x8192, .bf16⟩
  | .hbm, ⟨1, _⟩ => ⟨S8192x10240, .fp8e4m3⟩
  | .hbm, ⟨2, _⟩ => ⟨S10240, .f32⟩
  | .hbm, ⟨3, _⟩ => ⟨S8192x16, .bf16⟩
  | .hbm, ⟨4, _⟩ => ⟨S16, .f32⟩
  | .hbm, ⟨5, _⟩ => ⟨S3x2048x2, .i32⟩
  | .hbm, ⟨6, _⟩ => ⟨S8192x384, .bf16⟩
  | .hbm, ⟨7, _⟩ => ⟨S384x10240, .bf16⟩
  | .hbm, ⟨8, _⟩ => ⟨S6144x8192, .bf16⟩
  | .hbm, ⟨9, _⟩ => ⟨S6144x2, .i32⟩
  | .hbm, ⟨10, _⟩ => ⟨S1x16, .f32⟩
  | .hbm, ⟨11, _⟩ => ⟨S6144x8192, .fp8e4m3⟩
  | .hbm, ⟨12, _⟩ => ⟨S6144x1, .f32⟩
  | .hbm, ⟨13, _⟩ => ⟨S6144x2, .f32⟩
  | .hbm, ⟨14, _⟩ => ⟨S6144x384, .bf16⟩
  | .hbm, ⟨15, _⟩ => ⟨S1x10240, .f32⟩
  | .hbm, ⟨16, _⟩ => ⟨S6144x10240, .bf16⟩
  | .local _ .vmem, ⟨0, _⟩ => ⟨S256x8192, .bf16⟩
  | .local _ .vmem, ⟨1, _⟩ => ⟨S256x8192, .bf16⟩
  | .local _ .vmem, ⟨2, _⟩ => ⟨S8192x16, .bf16⟩
  | .local _ .vmem, ⟨3, _⟩ => ⟨S1x16, .f32⟩
  | .local _ .vmem, ⟨4, _⟩ => ⟨S256x2, .i32⟩
  | .local _ .vmem, ⟨5, _⟩ => ⟨S256x2, .i32⟩
  | .local _ .vmem, ⟨6, _⟩ => ⟨S8192x384, .bf16⟩
  | .local _ .vmem, ⟨7, _⟩ => ⟨S256x8192, .fp8e4m3⟩
  | .local _ .vmem, ⟨8, _⟩ => ⟨S256x8192, .fp8e4m3⟩
  | .local _ .vmem, ⟨9, _⟩ => ⟨S256x1, .f32⟩
  | .local _ .vmem, ⟨10, _⟩ => ⟨S256x1, .f32⟩
  | .local _ .vmem, ⟨11, _⟩ => ⟨S256x2, .f32⟩
  | .local _ .vmem, ⟨12, _⟩ => ⟨S256x2, .f32⟩
  | .local _ .vmem, ⟨13, _⟩ => ⟨S256x384, .bf16⟩
  | .local _ .vmem, ⟨14, _⟩ => ⟨S256x384, .bf16⟩
  | .local _ .vmem, ⟨15, _⟩ => ⟨S1024x8192, .fp8e4m3⟩
  | .local _ .vmem, ⟨16, _⟩ => ⟨S1024x8192, .fp8e4m3⟩
  | .local _ .vmem, ⟨17, _⟩ => ⟨S8192x1024, .fp8e4m3⟩
  | .local _ .vmem, ⟨18, _⟩ => ⟨S8192x1024, .fp8e4m3⟩
  | .local _ .vmem, ⟨19, _⟩ => ⟨S1024x1, .f32⟩
  | .local _ .vmem, ⟨20, _⟩ => ⟨S1024x1, .f32⟩
  | .local _ .vmem, ⟨21, _⟩ => ⟨S1x1024, .f32⟩
  | .local _ .vmem, ⟨22, _⟩ => ⟨S1x1024, .f32⟩
  | .local _ .vmem, ⟨23, _⟩ => ⟨S1024x384, .bf16⟩
  | .local _ .vmem, ⟨24, _⟩ => ⟨S1024x384, .bf16⟩
  | .local _ .vmem, ⟨25, _⟩ => ⟨S384x1024, .bf16⟩
  | .local _ .vmem, ⟨26, _⟩ => ⟨S384x1024, .bf16⟩
  | .local _ .vmem, ⟨27, _⟩ => ⟨S1024x1024, .bf16⟩
  | .local _ .vmem, ⟨28, _⟩ => ⟨S1024x1024, .bf16⟩
  | _, _ => ⟨S3x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![6, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x8192 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x1024 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S384x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S3x2048x8192 : Shape := ⟨3, ![3, 2048, 8192]⟩
abbrev S8192x10240 : Shape := ⟨2, ![8192, 10240]⟩
abbrev S10240 : Shape := ⟨1, ![10240]⟩
abbrev S8192x16 : Shape := ⟨2, ![8192, 16]⟩
abbrev S16 : Shape := ⟨1, ![16]⟩
abbrev S3x2048x2 : Shape := ⟨3, ![3, 2048, 2]⟩
abbrev S8192x384 : Shape := ⟨2, ![8192, 384]⟩
abbrev S384x10240 : Shape := ⟨2, ![384, 10240]⟩
abbrev S253 : Shape := ⟨1, ![253]⟩
abbrev S384 : Shape := ⟨1, ![384]⟩
abbrev S_ : Shape := ⟨0, ![]⟩
abbrev S3x2048 : Shape := ⟨2, ![3, 2048]⟩
abbrev S3x2048x1 : Shape := ⟨3, ![3, 2048, 1]⟩
abbrev S1x1x253 : Shape := ⟨3, ![1, 1, 253]⟩
abbrev S3x2048x253 : Shape := ⟨3, ![3, 2048, 253]⟩
abbrev S3x2048x16 : Shape := ⟨3, ![3, 2048, 16]⟩
abbrev S1x1x16 : Shape := ⟨3, ![1, 1, 16]⟩
abbrev S3x2048x2x1 : Shape := ⟨4, ![3, 2048, 2, 1]⟩
abbrev S1 : Shape := ⟨1, ![1]⟩
abbrev S1x1x1x1 : Shape := ⟨4, ![1, 1, 1, 1]⟩
abbrev S1x1x1x16 : Shape := ⟨4, ![1, 1, 1, 16]⟩
abbrev S3x2048x2x16 : Shape := ⟨4, ![3, 2048, 2, 16]⟩
abbrev S3x2048x384 : Shape := ⟨3, ![3, 2048, 384]⟩
abbrev S384x1 : Shape := ⟨2, ![384, 1]⟩
abbrev S3x2048x10240 : Shape := ⟨3, ![3, 2048, 10240]⟩
abbrev S6144x2 : Shape := ⟨2, ![6144, 2]⟩
abbrev S6144x1 : Shape := ⟨2, ![6144, 1]⟩
abbrev S6144x8192 : Shape := ⟨2, ![6144, 8192]⟩
abbrev S1x10240 : Shape := ⟨2, ![1, 10240]⟩
abbrev S6144x10240 : Shape := ⟨2, ![6144, 10240]⟩

abbrev nBuf : Space → Nat
  | .hbm => 114
  | .vmem => 7
  | .smem => 0
  | _ => 0

abbrev bufTy : (tb : Table) → Fin (tcTables nBuf tb) → BufTy
  | .hbm, ⟨0, _⟩ => ⟨S3x2048x8192, .bf16⟩
  | .hbm, ⟨1, _⟩ => ⟨S8192x10240, .fp8e4m3⟩
  | .hbm, ⟨2, _⟩ => ⟨S10240, .f32⟩
  | .hbm, ⟨3, _⟩ => ⟨S8192x16, .bf16⟩
  | .hbm, ⟨4, _⟩ => ⟨S16, .f32⟩
  | .hbm, ⟨5, _⟩ => ⟨S3x2048x2, .i32⟩
  | .hbm, ⟨6, _⟩ => ⟨S8192x384, .bf16⟩
  | .hbm, ⟨7, _⟩ => ⟨S384x10240, .bf16⟩
  | .hbm, ⟨8, _⟩ => ⟨S253, .f32⟩
  | .hbm, ⟨9, _⟩ => ⟨S384, .i32⟩
  | .hbm, ⟨10, _⟩ => ⟨S384, .i1⟩
  | .hbm, ⟨11, _⟩ => ⟨S3x2048x8192, .f32⟩
  | .hbm, ⟨12, _⟩ => ⟨S3x2048x8192, .f32⟩
  | .hbm, ⟨13, _⟩ => ⟨S_, .f32⟩
  | .hbm, ⟨14, _⟩ => ⟨S3x2048, .f32⟩
  | .hbm, ⟨15, _⟩ => ⟨S_, .f32⟩
  | .hbm, ⟨16, _⟩ => ⟨S3x2048, .f32⟩
  | .hbm, ⟨17, _⟩ => ⟨S3x2048, .f32⟩
  | .hbm, ⟨18, _⟩ => ⟨S3x2048x1, .f32⟩
  | .hbm, ⟨19, _⟩ => ⟨S1x1x253, .f32⟩
  | .hbm, ⟨20, _⟩ => ⟨S3x2048x253, .f32⟩
  | .hbm, ⟨21, _⟩ => ⟨S3x2048x253, .f32⟩
  | .hbm, ⟨22, _⟩ => ⟨S3x2048x253, .i1⟩
  | .hbm, ⟨23, _⟩ => ⟨S_, .f32⟩
  | .hbm, ⟨24, _⟩ => ⟨S_, .f32⟩
  | .hbm, ⟨25, _⟩ => ⟨S3x2048x253, .f32⟩
  | .hbm, ⟨26, _⟩ => ⟨S3x2048x253, .f32⟩
  | .hbm, ⟨27, _⟩ => ⟨S3x2048x253, .f32⟩
  | .hbm, ⟨28, _⟩ => ⟨S_, .f32⟩
  | .hbm, ⟨29, _⟩ => ⟨S3x2048, .f32⟩
  | .hbm, ⟨30, _⟩ => ⟨S_, .f32⟩
  | .hbm, ⟨31, _⟩ => ⟨S3x2048, .f32⟩
  | .hbm, ⟨32, _⟩ => ⟨S3x2048, .i1⟩
  | .hbm, ⟨33, _⟩ => ⟨S_, .f32⟩
  | .hbm, ⟨34, _⟩ => ⟨S_, .f32⟩
  | .hbm, ⟨35, _⟩ => ⟨S3x2048, .f32⟩
  | .hbm, ⟨36, _⟩ => ⟨S3x2048, .f32⟩
  | .hbm, ⟨37, _⟩ => ⟨S3x2048x16, .f32⟩
  | .hbm, ⟨38, _⟩ => ⟨S1x1x16, .f32⟩
  | .hbm, ⟨39, _⟩ => ⟨S3x2048x16, .f32⟩
  | .hbm, ⟨40, _⟩ => ⟨S3x2048x16, .f32⟩
  | .hbm, ⟨41, _⟩ => ⟨S_, .f32⟩
  | .hbm, ⟨42, _⟩ => ⟨S3x2048, .f32⟩
  | .hbm, ⟨43, _⟩ => ⟨S_, .f32⟩
  | .hbm, ⟨44, _⟩ => ⟨S3x2048, .f32⟩
  | .hbm, ⟨45, _⟩ => ⟨S3x2048, .f32⟩
  | .hbm, ⟨46, _⟩ => ⟨S3x2048x1, .f32⟩
  | .hbm, ⟨47, _⟩ => ⟨S3x2048x16, .f32⟩
  | .hbm, ⟨48, _⟩ => ⟨S3x2048x16, .f32⟩
  | .hbm, ⟨49, _⟩ => ⟨S3x2048x16, .f32⟩
  | .hbm, ⟨50, _⟩ => ⟨S_, .f32⟩
  | .hbm, ⟨51, _⟩ => ⟨S3x2048, .f32⟩
  | .hbm, ⟨52, _⟩ => ⟨S3x2048x1, .f32⟩
  | .hbm, ⟨53, _⟩ => ⟨S3x2048x16, .f32⟩
  | .hbm, ⟨54, _⟩ => ⟨S3x2048x16, .f32⟩
  | .hbm, ⟨55, _⟩ => ⟨S_, .i32⟩
  | .hbm, ⟨56, _⟩ => ⟨S3x2048x2, .i32⟩
  | .hbm, ⟨57, _⟩ => ⟨S3x2048x2, .i1⟩
  | .hbm, ⟨58, _⟩ => ⟨S_, .i32⟩
  | .hbm, ⟨59, _⟩ => ⟨S3x2048x2, .i32⟩
  | .hbm, ⟨60, _⟩ => ⟨S3x2048x2, .i32⟩
  | .hbm, ⟨61, _⟩ => ⟨S3x2048x2, .i32⟩
  | .hbm, ⟨62, _⟩ => ⟨S3x2048x2x1, .i32⟩
  | .hbm, ⟨63, _⟩ => ⟨S1, .i32⟩
  | .hbm, ⟨64, _⟩ => ⟨S_, .i32⟩
  | .hbm, ⟨65, _⟩ => ⟨S3x2048x2x1, .i32⟩
  | .hbm, ⟨66, _⟩ => ⟨S3x2048x2x1, .i1⟩
  | .hbm, ⟨67, _⟩ => ⟨S1x1x1x1, .i32⟩
  | .hbm, ⟨68, _⟩ => ⟨S3x2048x2x1, .i32⟩
  | .hbm, ⟨69, _⟩ => ⟨S3x2048x2x1, .i1⟩
  | .hbm, ⟨70, _⟩ => ⟨S3x2048x2x1, .i1⟩
  | .hbm, ⟨71, _⟩ => ⟨S_, .i1⟩
  | .hbm, ⟨72, _⟩ => ⟨S3x2048x2, .i1⟩
  | .hbm, ⟨73, _⟩ => ⟨S3x2048x2, .f32⟩
  | .hbm, ⟨74, _⟩ => ⟨S_, .f32⟩
  | .hbm, ⟨75, _⟩ => ⟨S3x2048x2, .f32⟩
  | .hbm, ⟨76, _⟩ => ⟨S3x2048x2, .f32⟩
  | .hbm, ⟨77, _⟩ => ⟨S3x2048x1, .f32⟩
  | .hbm, ⟨78, _⟩ => ⟨S3x2048x1, .f32⟩
  | .hbm, ⟨79, _⟩ => ⟨S3x2048x1, .f32⟩
  | .hbm, ⟨80, _⟩ => ⟨S3x2048x2, .f32⟩
  | .hbm, ⟨81, _⟩ => ⟨S3x2048x2, .f32⟩
  | .hbm, ⟨82, _⟩ => ⟨S3x2048x2x1, .i32⟩
  | .hbm, ⟨83, _⟩ => ⟨S16, .i32⟩
  | .hbm, ⟨84, _⟩ => ⟨S1x1x1x16, .i32⟩
  | .hbm, ⟨85, _⟩ => ⟨S3x2048x2x16, .i32⟩
  | .hbm, ⟨86, _⟩ => ⟨S3x2048x2x16, .i32⟩
  | .hbm, ⟨87, _⟩ => ⟨S3x2048x2x16, .i1⟩
  | .hbm, ⟨88, _⟩ => ⟨S3x2048x2x16, .f32⟩
  | .hbm, ⟨89, _⟩ => ⟨S3x2048x2x1, .f32⟩
  | .hbm, ⟨90, _⟩ => ⟨S3x2048x2x16, .f32⟩
  | .hbm, ⟨91, _⟩ => ⟨S3x2048x2x16, .f32⟩
  | .hbm, ⟨92, _⟩ => ⟨S_, .f32⟩
  | .hbm, ⟨93, _⟩ => ⟨S3x2048x16, .f32⟩
  | .hbm, ⟨94, _⟩ => ⟨S3x2048x384, .f32⟩
  | .hbm, ⟨95, _⟩ => ⟨S_, .f32⟩
  | .hbm, ⟨96, _⟩ => ⟨S3x2048x16, .f32⟩
  | .hbm, ⟨97, _⟩ => ⟨S3x2048x16, .f32⟩
  | .hbm, ⟨98, _⟩ => ⟨S_, .i32⟩
  | .hbm, ⟨99, _⟩ => ⟨S384, .i32⟩
  | .hbm, ⟨100, _⟩ => ⟨S384, .i32⟩
  | .hbm, ⟨101, _⟩ => ⟨S384, .i32⟩
  | .hbm, ⟨102, _⟩ => ⟨S384x1, .i32⟩
  | .hbm, ⟨103, _⟩ => ⟨S3x2048x384, .f32⟩
  | .hbm, ⟨104, _⟩ => ⟨S3x2048x384, .f32⟩
  | .hbm, ⟨105, _⟩ => ⟨S3x2048x384, .bf16⟩
  | .hbm, ⟨106, _⟩ => ⟨S3x2048x10240, .f32⟩
  | .hbm, ⟨107, _⟩ => ⟨S6144x2, .f32⟩
  | .hbm, ⟨108, _⟩ => ⟨S6144x1, .f32⟩
  | .hbm, ⟨109, _⟩ => ⟨S6144x8192, .bf16⟩
  | .hbm, ⟨110, _⟩ => ⟨S1x10240, .f32⟩
  | .hbm, ⟨111, _⟩ => ⟨S6144x10240, .f32⟩
  | .hbm, ⟨112, _⟩ => ⟨S6144x8192, .fp8e4m3⟩
  | .hbm, ⟨113, _⟩ => ⟨S6144x10240, .bf16⟩
  | .local _ .vmem, ⟨0, _⟩ => ⟨S6144x8192, .bf16⟩
  | .local _ .vmem, ⟨1, _⟩ => ⟨S8192x10240, .fp8e4m3⟩
  | .local _ .vmem, ⟨2, _⟩ => ⟨S6144x1, .f32⟩
  | .local _ .vmem, ⟨3, _⟩ => ⟨S1x10240, .f32⟩
  | .local _ .vmem, ⟨4, _⟩ => ⟨S6144x10240, .f32⟩
  | .local _ .vmem, ⟨5, _⟩ => ⟨S6144x8192, .fp8e4m3⟩
  | .local _ .vmem, ⟨6, _⟩ => ⟨S6144x10240, .bf16⟩
  | _, _ => ⟨S3x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_cst_8 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_10 : Ref sig .tc := ⟨.hbm, 92, rfl⟩
abbrev main_v46 : Ref sig .tc := ⟨.hbm, 93, rfl⟩
abbrev main_v47 : Ref sig .tc := ⟨.hbm, 94, rfl⟩
abbrev main_cst_11 : Ref sig .tc := ⟨.hbm, 95, rfl⟩
abbrev main_v48 : Ref sig .tc := ⟨.hbm, 96, rfl⟩
abbrev main_v49 : Ref sig .tc := ⟨.hbm, 97, rfl⟩
abbrev main_c_12 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63_0 : Ref sig .tc := ⟨.hbm, 112, rfl⟩
abbrev main_v63_1 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x10240 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The first region's output windows keep their contents through the second stretch and the second region. -/
theorem W4_prep (c : Dev nD) (w : Fin cfg0.W) (h0 : Pipeline.arrRef spec0 w ∉ hostOps1_W)
    (h1 : ∀ w' : Fin cfg1.W, Pipeline.arrRef spec1 w' = Pipeline.arrRef spec0 w → (cfg1.win w').isOut = false) :
    W4 m ρ c (Proc.devRef .tc (Pipeline.arrRef spec0 w)) = (dat0 (V1 m ρ) c).arrAt w cfg0.N :=
  (W4_of m ρ c _ h1).trans ((W3_of m ρ c _ h0).trans (W2_arr m ρ c w))

set_option backward.isDefEq.respectTransparency.types false in
/-- The kernel's run from any memory: it terminates with each result array at what its region's pipeline leaves
    and every argument as launched. -/
theorem run : θ_run defs (onTc (τ := τ) (main (F := F))) ⟨m, fun _ => 0, ρ⟩ (fun r => ∀ c : Dev nD,
      r.2.mem ((c.tc : Thread nD τ).loc main_v5) = (dat1 (V3 m ρ) c).arrAt 6 cfg1.N
      ∧ r.2.mem ((c.tc : Thread nD τ).loc main_v3_2) = (dat0 (V1 m ρ) c).arrAt 7 cfg0.N
      ∧ r.2.mem ((c.tc : Thread nD τ).loc main_v3_0) = (dat0 (V1 m ρ) c).arrAt 5 cfg0.N
      ∧ r.2.mem ((c.tc : Thread nD τ).loc main_v3_1) = (dat0 (V1 m ρ) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v5 (by decide))).trans (W4_arr m ρ c 6),
       (h c _ (mem_uc main_v3_2 (by decide))).trans (W4_prep m ρ c 7 (by decide) (by decide)),
       (h c _ (mem_uc main_v3_0 (by decide))).trans (W4_prep m ρ c 5 (by decide) (by decide)),
       (h c _ (mem_uc main_v3_1 (by decide))).trans (W4_prep m ρ c 6 (by decide) (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.RefTerms.lean ====
module

public import proofs.«01_k».proof.Proof.Gen.ReferenceIdeal.Frame
public import Idealize.ShloMosaic.Lib.Claim
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Gen

/-- The reference's rows' greatest absolute values over 448. -/
def QUOT (X : FVec Ideal S3x2048x8192 .bf16) : FVec Ideal S3x2048 .f32 :=
  mulf (Host.reduce FloatOps.maximumf (Host.absf (extf .f32 X bitsLt_bf16_f32)) (constant S_ .f32 0xFF800000#32)
      reducesTo_S3x2048x8192_S3x2048_d2 h_S_)
    (broadcastInDim S3x2048 ![] bcast_S_S3x2048 (constant S_ .f32 0x3B124925#32))

/-- The reference's table of powers of two. -/
def TABLE : FVec Ideal S253 .f32 := fun i => FloatOps.ofBits .f32 (lit0 (S253.rowMajor i))

/-- Where the table's powers exceed those. -/
def ABOVE (Q : FVec Ideal S3x2048 .f32) : IVec S3x2048x253 1 :=
  cmpf .ogt
    (broadcastInDim S3x2048x253 ![0, 1, 2] bcast_S1x1x253_S3x2048x253_0_1_2
      (broadcastInDim S1x1x253 ![2] bcast_S253_S1x1x253_2 TABLE))
    (broadcastInDim S3x2048x253 ![0, 1, 2] bcast_S3x2048x1_S3x2048x253_0_1_2
      (broadcastInDim S3x2048x1 ![0, 1] bcast_S3x2048_S3x2048x1_0_1 Q))

/-- The powers above, and infinity elsewhere. -/
def POWERS (B : IVec S3x2048x253 1) (T : FVec Ideal S253 .f32) (inf : FVec Ideal S_ .f32) : FVec Ideal S3x2048x253 .f32 :=
  select B (broadcastInDim S3x2048x253 ![2] bcast_S253_S3x2048x253_2 T) (broadcastInDim S3x2048x253 ![] bcast_S_S3x2048x253 inf)

/-- The least of them. -/
def LEAST (P : FVec Ideal S3x2048x253 .f32) : FVec Ideal S3x2048 .f32 :=
  Host.reduce FloatOps.minimumf P (constant S_ .f32 0x7F800000#32) reducesTo_S3x2048x253_S3x2048_d2 h_S_

/-- Where the quotients are below the smallest normal. -/
def SMALL (Q : FVec Ideal S3x2048 .f32) : IVec S3x2048 1 :=
  cmpf .olt Q (broadcastInDim S3x2048 ![] bcast_S_S3x2048 (constant S_ .f32 0x00800000#32))

/-- One where small, the least power elsewhere. -/
def CHOOSE (B : IVec S3x2048 1) (one : FVec Ideal S_ .f32) (L : FVec Ideal S3x2048 .f32) : FVec Ideal S3x2048 .f32 :=
  select B (broadcastInDim S3x2048 ![] bcast_S_S3x2048 one) L

/-- The reference's scales from the quotients. -/
def SCALE (Q : FVec Ideal S3x2048 .f32) : FVec Ideal S3x2048 .f32 :=
  CHOOSE (SMALL Q) (constant S_ .f32 0x3F800000#32) (LEAST (POWERS (ABOVE Q) TABLE (constant S_ .f32 0x7F800000#32)))

/-- The reference's router logits. -/
def LOGITS (X : FVec Ideal S3x2048x8192 .bf16) (RW : FVec Ideal S8192x16 .bf16) (RB : FVec Ideal S16 .f32) :
    FVec Ideal S3x2048x16 .f32 :=
  addf (Host.dotGeneral dot_S3x2048x8192_S8192x16_S3x2048x16_2_0_01_1_n_n none X RW)
    (broadcastInDim S3x2048x16 ![0, 1, 2] bcast_S1x1x16_S3x2048x16_0_1_2 (broadcastInDim S1x1x16 ![2] bcast_S16_S1x1x16_2 RB))

/-- The exponentials of the logits less their row's greatest. -/
def EXPS (L : FVec Ideal S3x2048x16 .f32) : FVec Ideal S3x2048x16 .f32 :=
  Host.exp (subf L
    (broadcastInDim S3x2048x16 ![0, 1, 2] bcast_S3x2048x1_S3x2048x16_0_1_2
      (broadcastInDim S3x2048x1 ![0, 1] bcast_S3x2048_S3x2048x1_0_1
        (maximumf (broadcastInDim S3x2048 ![] bcast_S_S3x2048 (constant S_ .f32 0xFF800000#32))
          (Host.reduce FloatOps.maximumf L (constant S_ .f32 0xFF800000#32) reducesTo_S3x2048x16_S3x2048_d2 h_S_)))))

/-- The probabilities from the exponentials. -/
def PROBS (E : FVec Ideal S3x2048x16 .f32) : FVec Ideal S3x2048x16 .f32 :=
  Host.divf E
    (broadcastInDim S3x2048x16 ![0, 1, 2] bcast_S3x2048x1_S3x2048x16_0_1_2
      (broadcastInDim S3x2048x1 ![0, 1] bcast_S3x2048_S3x2048x1_0_1
        (Host.reduceAdd E (constant S_ .f32 0x00000000#32) reducesTo_S3x2048x16_S3x2048_d2 h_S_)))

/-- The expert indices, a negative one counted from the end. -/
def WRAP (I : IVec S3x2048x2 32) : IVec S3x2048x2x1 32 :=
  shapeCast S3x2048x2x1
    (select (cmpi .slt I (broadcastInDim S3x2048x2 ![] bcast_S_S3x2048x2 (constantI S_ 32 0#32)))
      (addi I (broadcastInDim S3x2048x2 ![] bcast_S_S3x2048x2 (constantI S_ 32 16#32))) I) shapeCasts_S3x2048x2_S3x2048x2x1

/-- The probabilities of the chosen experts. -/
def TAKE (P : FVec Ideal S3x2048x16 .f32) (W : IVec S3x2048x2x1 32) : FVec Ideal S3x2048x2 .f32 :=
  select
    (Host.reduce IntOp.andi
      (andi (cmpi .sge W (broadcastInDim S3x2048x2x1 ![] bcast_S_S3x2048x2x1 (constantI S_ 32 0#32)))
        (cmpi .sle W (broadcastInDim S3x2048x2x1 ![0, 1, 2, 3] bcast_S1x1x1x1_S3x2048x2x1_0_1_2_3
          (broadcastInDim S1x1x1x1 ![3] bcast_S1_S1x1x1x1_3 (constantI S1 32 15#32)))))
      (constantI S_ 1 1#1) reducesTo_S3x2048x2x1_S3x2048x2_d3 h_S_)
    (Host.gather gather_S3x2048x16_S3x2048x2x1_S3x2048x2_n_2_01_01_2_3_111 P W)
    (broadcastInDim S3x2048x2 ![] bcast_S_S3x2048x2 (constant S_ .f32 0x7FC00000#32))

/-- The gates: each token's chosen probabilities over their sum. -/
def GATES (T : FVec Ideal S3x2048x2 .f32) : FVec Ideal S3x2048x2 .f32 :=
  Host.divf T
    (broadcastInDim S3x2048x2 ![0, 1, 2] bcast_S3x2048x1_S3x2048x2_0_1_2
      (addf (extractStridedSlice S3x2048x1 ![0, 0, 0] T slices_S3x2048x2_S3x2048x1_0_0_0)
        (extractStridedSlice S3x2048x1 ![0, 0, 1] T slices_S3x2048x2_S3x2048x1_0_0_1)))

/-- Each token's weight of each expert. -/
def WEIGHT (I : IVec S3x2048x2 32) (G : FVec Ideal S3x2048x2 .f32) : FVec Ideal S3x2048x16 .f32 :=
  mulf
    (Host.reduceAdd
      (mulf
        (uitofp .f32
          (cmpi .eq
            (broadcastInDim S3x2048x2x16 ![0, 1, 2, 3] bcast_S3x2048x2x1_S3x2048x2x16_0_1_2_3
              (broadcastInDim S3x2048x2x1 ![0, 1, 2] bcast_S3x2048x2_S3x2048x2x1_0_1_2 I))
            (broadcastInDim S3x2048x2x16 ![0, 1, 2, 3] bcast_S1x1x1x16_S3x2048x2x16_0_1_2_3
              (broadcastInDim S1x1x1x16 ![3] bcast_S16_S1x1x1x16_3 (iotaInDim S16 32 0)))))
        (broadcastInDim S3x2048x2x16 ![0, 1, 2, 3] bcast_S3x2048x2x1_S3x2048x2x16_0_1_2_3
          (broadcastInDim S3x2048x2x1 ![0, 1, 2] bcast_S3x2048x2_S3x2048x2x1_0_1_2 G)))
      (constant S_ .f32 0x00000000#32) reducesTo_S3x2048x2x16_S3x2048x16_d2 h_S_)
    (broadcastInDim S3x2048x16 ![] bcast_S_S3x2048x16 (constant S_ .f32 0x40000000#32))

/-- The expert of each column of the adapters. -/
def COLS (B : IVec S384 1) (C : IVec S384 32) : IVec S384x1 32 :=
  broadcastInDim S384x1 ![0] bcast_S384_S384x1_0
    (select B (addi C (broadcastInDim S384 ![] bcast_S_S384 (constantI S_ 32 16#32))) C)

/-- The table of the columns' experts. -/
def CTABLE : IVec S384 32 := fun i => lit1 (S384.rowMajor i)

/-- The gated hidden features of the adapters. -/
def HIDDEN (X : FVec Ideal S3x2048x8192 .bf16) (LA : FVec Ideal S8192x384 .bf16) (W : FVec Ideal S3x2048x16 .f32)
    (C : IVec S384x1 32) : FVec Ideal S3x2048x384 .bf16 :=
  truncf .bf16
    (mulf (Host.dotGeneral dot_S3x2048x8192_S8192x384_S3x2048x384_2_0_01_1_n_n none X LA)
      (Host.gather gather_S3x2048x16_S384x1_S3x2048x384_01_2_n_n_2_1_320481 W C)) bitsLt_bf16_f32

/-- The adapters' part, a token a row. -/
def LORA (H : FVec Ideal S3x2048x384 .bf16) (LB : FVec Ideal S384x10240 .bf16) : FVec Ideal S6144x10240 .f32 :=
  shapeCast S6144x10240 (Host.dotGeneral dot_S3x2048x384_S384x10240_S3x2048x10240_2_0_01_1_n_n none H LB)
    shapeCasts_S3x2048x10240_S6144x10240

section Stretches
variable (σ : Valuation τ sig (Elt Ideal))

/-- Stretch 0 leaves `main_v4` so. -/
theorem st0_main_v4 : StableHlo.after (hostOps0 (F := Ideal)) σ (Proc.devRef .tc main_v4) = QUOT (σ (Proc.devRef .tc main_arg0)) := by
  entry_read
  rfl

/-- Stretch 0 leaves `main_cst` so. -/
theorem st0_main_cst : StableHlo.after (hostOps0 (F := Ideal)) σ (Proc.devRef .tc main_cst) = TABLE := by
  entry_read
  rfl

/-- Stretch 0 leaves `main_c` so. -/
theorem st0_main_c : StableHlo.after (hostOps0 (F := Ideal)) σ (Proc.devRef .tc main_c) = CTABLE := by
  entry_read
  rfl

/-- Stretch 0 leaves `main_c_0` so. -/
theorem st0_main_c_0 : StableHlo.after (hostOps0 (F := Ideal)) σ (Proc.devRef .tc main_c_0) = constantI S384 1 0#1 := by
  entry_read
  rfl

/-- Stretch 0 leaves `main_v9` so. -/
theorem st0_main_v9 : StableHlo.after (hostOps0 (F := Ideal)) σ (Proc.devRef .tc main_v9) = ABOVE (QUOT (σ (Proc.devRef .tc main_arg0))) := by
  entry_read
  rfl

/-- Stretch 0 leaves `main_cst_3` so. -/
theorem st0_main_cst_3 : StableHlo.after (hostOps0 (F := Ideal)) σ (Proc.devRef .tc main_cst_3) = (constant S_ .f32 0x7F800000#32 : FVec Ideal S_ .f32) := by
  entry_read
  rfl

/-- Stretch 0 keeps `main_arg0`. -/
theorem st0_main_arg0 : StableHlo.after (hostOps0 (F := Ideal)) σ (Proc.devRef .tc main_arg0) = σ (Proc.devRef .tc main_arg0) := by
  entry_read
  rfl

/-- Stretch 0 keeps `main_arg2`. -/
theorem st0_main_arg2 : StableHlo.after (hostOps0 (F := Ideal)) σ (Proc.devRef .tc main_arg2) = σ (Proc.devRef .tc main_arg2) := by
  entry_read
  rfl

/-- Stretch 0 keeps `main_arg3`. -/
theorem st0_main_arg3 : StableHlo.after (hostOps0 (F := Ideal)) σ (Proc.devRef .tc main_arg3) = σ (Proc.devRef .tc main_arg3) := by
  entry_read
  rfl

/-- Stretch 0 keeps `main_arg4`. -/
theorem st0_main_arg4 : StableHlo.after (hostOps0 (F := Ideal)) σ (Proc.devRef .tc main_arg4) = σ (Proc.devRef .tc main_arg4) := by
  entry_read
  rfl

/-- Stretch 0 keeps `main_arg5`. -/
theorem st0_main_arg5 : StableHlo.after (hostOps0 (F := Ideal)) σ (Proc.devRef .tc main_arg5) = σ (Proc.devRef .tc main_arg5) := by
  entry_read
  rfl

/-- Stretch 0 keeps `main_arg6`. -/
theorem st0_main_arg6 : StableHlo.after (hostOps0 (F := Ideal)) σ (Proc.devRef .tc main_arg6) = σ (Proc.devRef .tc main_arg6) := by
  entry_read
  rfl

/-- Stretch 0 keeps `main_arg7`. -/
theorem st0_main_arg7 : StableHlo.after (hostOps0 (F := Ideal)) σ (Proc.devRef .tc main_arg7) = σ (Proc.devRef .tc main_arg7) := by
  entry_read
  rfl

/-- Stretch 1 leaves `main_v10` so. -/
theorem st1_main_v10 : StableHlo.after (hostOps0_1 (F := Ideal)) σ (Proc.devRef .tc main_v10) = POWERS (σ (Proc.devRef .tc main_v9)) (σ (Proc.devRef .tc main_cst)) (σ (Proc.devRef .tc main_cst_3)) := by
  entry_read
  try simp only [StableHlo.TRef.ofBuf_toBuf]
  rfl

/-- Stretch 1 keeps `main_v4`. -/
theorem st1_main_v4 : StableHlo.after (hostOps0_1 (F := Ideal)) σ (Proc.devRef .tc main_v4) = σ (Proc.devRef .tc main_v4) := by
  entry_read
  rfl

/-- Stretch 1 keeps `main_c`. -/
theorem st1_main_c : StableHlo.after (hostOps0_1 (F := Ideal)) σ (Proc.devRef .tc main_c) = σ (Proc.devRef .tc main_c) := by
  entry_read
  rfl

/-- Stretch 1 keeps `main_c_0`. -/
theorem st1_main_c_0 : StableHlo.after (hostOps0_1 (F := Ideal)) σ (Proc.devRef .tc main_c_0) = σ (Proc.devRef .tc main_c_0) := by
  entry_read
  rfl

/-- Stretch 1 keeps `main_arg0`. -/
theorem st1_main_arg0 : StableHlo.after (hostOps0_1 (F := Ideal)) σ (Proc.devRef .tc main_arg0) = σ (Proc.devRef .tc main_arg0) := by
  entry_read
  rfl

/-- Stretch 1 keeps `main_arg2`. -/
theorem st1_main_arg2 : StableHlo.after (hostOps0_1 (F := Ideal)) σ (Proc.devRef .tc main_arg2) = σ (Proc.devRef .tc main_arg2) := by
  entry_read
  rfl

/-- Stretch 1 keeps `main_arg3`. -/
theorem st1_main_arg3 : StableHlo.after (hostOps0_1 (F := Ideal)) σ (Proc.devRef .tc main_arg3) = σ (Proc.devRef .tc main_arg3) := by
  entry_read
  rfl

/-- Stretch 1 keeps `main_arg4`. -/
theorem st1_main_arg4 : StableHlo.after (hostOps0_1 (F := Ideal)) σ (Proc.devRef .tc main_arg4) = σ (Proc.devRef .tc main_arg4) := by
  entry_read
  rfl

/-- Stretch 1 keeps `main_arg5`. -/
theorem st1_main_arg5 : StableHlo.after (hostOps0_1 (F := Ideal)) σ (Proc.devRef .tc main_arg5) = σ (Proc.devRef .tc main_arg5) := by
  entry_read
  rfl

/-- Stretch 1 keeps `main_arg6`. -/
theorem st1_main_arg6 : StableHlo.after (hostOps0_1 (F := Ideal)) σ (Proc.devRef .tc main_arg6) = σ (Proc.devRef .tc main_arg6) := by
  entry_read
  rfl

/-- Stretch 1 keeps `main_arg7`. -/
theorem st1_main_arg7 : StableHlo.after (hostOps0_1 (F := Ideal)) σ (Proc.devRef .tc main_arg7) = σ (Proc.devRef .tc main_arg7) := by
  entry_read
  rfl

/-- Stretch 2 leaves `main_v11` so. -/
theorem st2_main_v11 : StableHlo.after (hostOps0_2 (F := Ideal)) σ (Proc.devRef .tc main_v11) = LEAST (σ (Proc.devRef .tc main_v10)) := by
  entry_read
  rfl

/-- Stretch 2 leaves `main_v13` so. -/
theorem st2_main_v13 : StableHlo.after (hostOps0_2 (F := Ideal)) σ (Proc.devRef .tc main_v13) = SMALL (σ (Proc.devRef .tc main_v4)) := by
  entry_read
  rfl

/-- Stretch 2 leaves `main_cst_6` so. -/
theorem st2_main_cst_6 : StableHlo.after (hostOps0_2 (F := Ideal)) σ (Proc.devRef .tc main_cst_6) = (constant S_ .f32 0x3F800000#32 : FVec Ideal S_ .f32) := by
  entry_read
  rfl

/-- Stretch 2 keeps `main_c`. -/
theorem st2_main_c : StableHlo.after (hostOps0_2 (F := Ideal)) σ (Proc.devRef .tc main_c) = σ (Proc.devRef .tc main_c) := by
  entry_read
  rfl

/-- Stretch 2 keeps `main_c_0`. -/
theorem st2_main_c_0 : StableHlo.after (hostOps0_2 (F := Ideal)) σ (Proc.devRef .tc main_c_0) = σ (Proc.devRef .tc main_c_0) := by
  entry_read
  rfl

/-- Stretch 2 keeps `main_arg0`. -/
theorem st2_main_arg0 : StableHlo.after (hostOps0_2 (F := Ideal)) σ (Proc.devRef .tc main_arg0) = σ (Proc.devRef .tc main_arg0) := by
  entry_read
  rfl

/-- Stretch 2 keeps `main_arg2`. -/
theorem st2_main_arg2 : StableHlo.after (hostOps0_2 (F := Ideal)) σ (Proc.devRef .tc main_arg2) = σ (Proc.devRef .tc main_arg2) := by
  entry_read
  rfl

/-- Stretch 2 keeps `main_arg3`. -/
theorem st2_main_arg3 : StableHlo.after (hostOps0_2 (F := Ideal)) σ (Proc.devRef .tc main_arg3) = σ (Proc.devRef .tc main_arg3) := by
  entry_read
  rfl

/-- Stretch 2 keeps `main_arg4`. -/
theorem st2_main_arg4 : StableHlo.after (hostOps0_2 (F := Ideal)) σ (Proc.devRef .tc main_arg4) = σ (Proc.devRef .tc main_arg4) := by
  entry_read
  rfl

/-- Stretch 2 keeps `main_arg5`. -/
theorem st2_main_arg5 : StableHlo.after (hostOps0_2 (F := Ideal)) σ (Proc.devRef .tc main_arg5) = σ (Proc.devRef .tc main_arg5) := by
  entry_read
  rfl

/-- Stretch 2 keeps `main_arg6`. -/
theorem st2_main_arg6 : StableHlo.after (hostOps0_2 (F := Ideal)) σ (Proc.devRef .tc main_arg6) = σ (Proc.devRef .tc main_arg6) := by
  entry_read
  rfl

/-- Stretch 2 keeps `main_arg7`. -/
theorem st2_main_arg7 : StableHlo.after (hostOps0_2 (F := Ideal)) σ (Proc.devRef .tc main_arg7) = σ (Proc.devRef .tc main_arg7) := by
  entry_read
  rfl

/-- Stretch 3 leaves `main_v14` so. -/
theorem st3_main_v14 : StableHlo.after (hostOps0_3 (F := Ideal)) σ (Proc.devRef .tc main_v14) = CHOOSE (σ (Proc.devRef .tc main_v13)) (σ (Proc.devRef .tc main_cst_6)) (σ (Proc.devRef .tc main_v11)) := by
  entry_read
  try simp only [StableHlo.TRef.ofBuf_toBuf]
  rfl

/-- Stretch 3 keeps `main_c`. -/
theorem st3_main_c : StableHlo.after (hostOps0_3 (F := Ideal)) σ (Proc.devRef .tc main_c) = σ (Proc.devRef .tc main_c) := by
  entry_read
  rfl

/-- Stretch 3 keeps `main_c_0`. -/
theorem st3_main_c_0 : StableHlo.after (hostOps0_3 (F := Ideal)) σ (Proc.devRef .tc main_c_0) = σ (Proc.devRef .tc main_c_0) := by
  entry_read
  rfl

/-- Stretch 3 keeps `main_arg0`. -/
theorem st3_main_arg0 : StableHlo.after (hostOps0_3 (F := Ideal)) σ (Proc.devRef .tc main_arg0) = σ (Proc.devRef .tc main_arg0) := by
  entry_read
  rfl

/-- Stretch 3 keeps `main_arg2`. -/
theorem st3_main_arg2 : StableHlo.after (hostOps0_3 (F := Ideal)) σ (Proc.devRef .tc main_arg2) = σ (Proc.devRef .tc main_arg2) := by
  entry_read
  rfl

/-- Stretch 3 keeps `main_arg3`. -/
theorem st3_main_arg3 : StableHlo.after (hostOps0_3 (F := Ideal)) σ (Proc.devRef .tc main_arg3) = σ (Proc.devRef .tc main_arg3) := by
  entry_read
  rfl

/-- Stretch 3 keeps `main_arg4`. -/
theorem st3_main_arg4 : StableHlo.after (hostOps0_3 (F := Ideal)) σ (Proc.devRef .tc main_arg4) = σ (Proc.devRef .tc main_arg4) := by
  entry_read
  rfl

/-- Stretch 3 keeps `main_arg5`. -/
theorem st3_main_arg5 : StableHlo.after (hostOps0_3 (F := Ideal)) σ (Proc.devRef .tc main_arg5) = σ (Proc.devRef .tc main_arg5) := by
  entry_read
  rfl

/-- Stretch 3 keeps `main_arg6`. -/
theorem st3_main_arg6 : StableHlo.after (hostOps0_3 (F := Ideal)) σ (Proc.devRef .tc main_arg6) = σ (Proc.devRef .tc main_arg6) := by
  entry_read
  rfl

/-- Stretch 3 keeps `main_arg7`. -/
theorem st3_main_arg7 : StableHlo.after (hostOps0_3 (F := Ideal)) σ (Proc.devRef .tc main_arg7) = σ (Proc.devRef .tc main_arg7) := by
  entry_read
  rfl

/-- Stretch 4 leaves `main_v29` so. -/
theorem st4_main_v29 : StableHlo.after (hostOps0_4 (F := Ideal)) σ (Proc.devRef .tc main_v29) = PROBS (EXPS (LOGITS (σ (Proc.devRef .tc main_arg0)) (σ (Proc.devRef .tc main_arg3)) (σ (Proc.devRef .tc main_arg4)))) := by
  entry_read
  rfl

/-- Stretch 4 keeps `main_v14`. -/
theorem st4_main_v14 : StableHlo.after (hostOps0_4 (F := Ideal)) σ (Proc.devRef .tc main_v14) = σ (Proc.devRef .tc main_v14) := by
  entry_read
  rfl

/-- Stretch 4 keeps `main_c`. -/
theorem st4_main_c : StableHlo.after (hostOps0_4 (F := Ideal)) σ (Proc.devRef .tc main_c) = σ (Proc.devRef .tc main_c) := by
  entry_read
  rfl

/-- Stretch 4 keeps `main_c_0`. -/
theorem st4_main_c_0 : StableHlo.after (hostOps0_4 (F := Ideal)) σ (Proc.devRef .tc main_c_0) = σ (Proc.devRef .tc main_c_0) := by
  entry_read
  rfl

/-- Stretch 4 keeps `main_arg0`. -/
theorem st4_main_arg0 : StableHlo.after (hostOps0_4 (F := Ideal)) σ (Proc.devRef .tc main_arg0) = σ (Proc.devRef .tc main_arg0) := by
  entry_read
  rfl

/-- Stretch 4 keeps `main_arg2`. -/
theorem st4_main_arg2 : StableHlo.after (hostOps0_4 (F := Ideal)) σ (Proc.devRef .tc main_arg2) = σ (Proc.devRef .tc main_arg2) := by
  entry_read
  rfl

/-- Stretch 4 keeps `main_arg5`. -/
theorem st4_main_arg5 : StableHlo.after (hostOps0_4 (F := Ideal)) σ (Proc.devRef .tc main_arg5) = σ (Proc.devRef .tc main_arg5) := by
  entry_read
  rfl

/-- Stretch 4 keeps `main_arg6`. -/
theorem st4_main_arg6 : StableHlo.after (hostOps0_4 (F := Ideal)) σ (Proc.devRef .tc main_arg6) = σ (Proc.devRef .tc main_arg6) := by
  entry_read
  rfl

/-- Stretch 4 keeps `main_arg7`. -/
theorem st4_main_arg7 : StableHlo.after (hostOps0_4 (F := Ideal)) σ (Proc.devRef .tc main_arg7) = σ (Proc.devRef .tc main_arg7) := by
  entry_read
  rfl

/-- Stretch 5 leaves `main_v30` so. -/
theorem st5_main_v30 : StableHlo.after (hostOps0_5 (F := Ideal)) σ (Proc.devRef .tc main_v30) = TAKE (σ (Proc.devRef .tc main_v29)) (WRAP (σ (Proc.devRef .tc main_arg5))) := by
  entry_read
  try simp only [StableHlo.TRef.ofBuf_toBuf]
  rfl

/-- Stretch 5 keeps `main_v14`. -/
theorem st5_main_v14 : StableHlo.after (hostOps0_5 (F := Ideal)) σ (Proc.devRef .tc main_v14) = σ (Proc.devRef .tc main_v14) := by
  entry_read
  rfl

/-- Stretch 5 keeps `main_c`. -/
theorem st5_main_c : StableHlo.after (hostOps0_5 (F := Ideal)) σ (Proc.devRef .tc main_c) = σ (Proc.devRef .tc main_c) := by
  entry_read
  rfl

/-- Stretch 5 keeps `main_c_0`. -/
theorem st5_main_c_0 : StableHlo.after (hostOps0_5 (F := Ideal)) σ (Proc.devRef .tc main_c_0) = σ (Proc.devRef .tc main_c_0) := by
  entry_read
  rfl

/-- Stretch 5 keeps `main_arg0`. -/
theorem st5_main_arg0 : StableHlo.after (hostOps0_5 (F := Ideal)) σ (Proc.devRef .tc main_arg0) = σ (Proc.devRef .tc main_arg0) := by
  entry_read
  rfl

/-- Stretch 5 keeps `main_arg2`. -/
theorem st5_main_arg2 : StableHlo.after (hostOps0_5 (F := Ideal)) σ (Proc.devRef .tc main_arg2) = σ (Proc.devRef .tc main_arg2) := by
  entry_read
  rfl

/-- Stretch 5 keeps `main_arg5`. -/
theorem st5_main_arg5 : StableHlo.after (hostOps0_5 (F := Ideal)) σ (Proc.devRef .tc main_arg5) = σ (Proc.devRef .tc main_arg5) := by
  entry_read
  rfl

/-- Stretch 5 keeps `main_arg6`. -/
theorem st5_main_arg6 : StableHlo.after (hostOps0_5 (F := Ideal)) σ (Proc.devRef .tc main_arg6) = σ (Proc.devRef .tc main_arg6) := by
  entry_read
  rfl

/-- Stretch 5 keeps `main_arg7`. -/
theorem st5_main_arg7 : StableHlo.after (hostOps0_5 (F := Ideal)) σ (Proc.devRef .tc main_arg7) = σ (Proc.devRef .tc main_arg7) := by
  entry_read
  rfl

/-- Stretch 6 leaves `main_v58` so. -/
theorem st6_main_v58 : StableHlo.after (hostOps0_6 (F := Ideal)) σ (Proc.devRef .tc main_v58) = shapeCast S6144x2 (GATES (σ (Proc.devRef .tc main_v30))) shapeCasts_S3x2048x2_S6144x2 := by
  entry_read
  rfl

/-- Stretch 6 leaves `main_v59` so. -/
theorem st6_main_v59 : StableHlo.after (hostOps0_6 (F := Ideal)) σ (Proc.devRef .tc main_v59) = shapeCast S6144x1 (σ (Proc.devRef .tc main_v14)) shapeCasts_S3x2048_S6144x1 := by
  entry_read
  rfl

/-- Stretch 6 leaves `main_v60` so. -/
theorem st6_main_v60 : StableHlo.after (hostOps0_6 (F := Ideal)) σ (Proc.devRef .tc main_v60) = shapeCast S6144x8192 (σ (Proc.devRef .tc main_arg0)) shapeCasts_S3x2048x8192_S6144x8192 := by
  entry_read
  rfl

/-- Stretch 6 leaves `main_v61` so. -/
theorem st6_main_v61 : StableHlo.after (hostOps0_6 (F := Ideal)) σ (Proc.devRef .tc main_v61) = shapeCast S1x10240 (σ (Proc.devRef .tc main_arg2)) shapeCasts_S10240_S1x10240 := by
  entry_read
  rfl

/-- Stretch 6 leaves `main_v62` so. -/
theorem st6_main_v62 : StableHlo.after (hostOps0_6 (F := Ideal)) σ (Proc.devRef .tc main_v62) = LORA (HIDDEN (σ (Proc.devRef .tc main_arg0)) (σ (Proc.devRef .tc main_arg6)) (WEIGHT (σ (Proc.devRef .tc main_arg5)) (GATES (σ (Proc.devRef .tc main_v30)))) (COLS (σ (Proc.devRef .tc main_c_0)) (σ (Proc.devRef .tc main_c)))) (σ (Proc.devRef .tc main_arg7)) := by
  entry_read
  rfl

end Stretches

/-- The contents after two lines of operations are those after the second from those after the first. -/
theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons a l ih => simp only [List.cons_append, StableHlo.after_cons, ih]

variable (m : (ℓ : Loc nD τ sig) → Buf (Elt Ideal) ℓ)

/-- The contents when the region starts, stretch by stretch. -/
theorem V_eq (c : Dev nD) (b : Ref sig .tc) : V m c b = StableHlo.after hostOps0_6 (StableHlo.after hostOps0_5
    (StableHlo.after hostOps0_4 (StableHlo.after hostOps0_3 (StableHlo.after hostOps0_2 (StableHlo.after hostOps0_1
      (StableHlo.after hostOps0 (fun b => m (c, b)))))))) (Proc.devRef .tc b) := by
  unfold V
  simp only [List.flatten_cons, List.flatten_nil, List.append_nil, after_app]

/-- The gates of the launch memory. -/
def GATESm (c : Dev nD) : FVec Ideal S3x2048x2 .f32 :=
  GATES (TAKE (PROBS (EXPS (LOGITS (m ((c : Thread nD τ).loc main_arg0)) (m ((c : Thread nD τ).loc main_arg3))
    (m ((c : Thread nD τ).loc main_arg4))))) (WRAP (m ((c : Thread nD τ).loc main_arg5))))

/-- The scales when the region starts. -/
theorem V_scale (c : Dev nD) : V m c main_v59 = shapeCast S6144x1 (SCALE (QUOT (m ((c : Thread nD τ).loc main_arg0)))) shapeCasts_S3x2048_S6144x1 := by
  rw [V_eq]
  rw [st6_main_v59, st5_main_v14, st4_main_v14, st3_main_v14, st2_main_v13, st2_main_cst_6, st2_main_v11, st1_main_v4, st1_main_v10, st0_main_v4, st0_main_v9, st0_main_cst, st0_main_cst_3]
  rfl

/-- The gates when the region starts. -/
theorem V_gates (c : Dev nD) : V m c main_v58 = shapeCast S6144x2 (GATESm m c) shapeCasts_S3x2048x2_S6144x2 := by
  rw [V_eq]
  rw [st6_main_v58, st5_main_v30, st4_main_v29, st4_main_arg5, st3_main_arg0, st3_main_arg3, st3_main_arg4, st3_main_arg5, st2_main_arg0, st2_main_arg3, st2_main_arg4, st2_main_arg5, st1_main_arg0, st1_main_arg3, st1_main_arg4, st1_main_arg5, st0_main_arg0, st0_main_arg3, st0_main_arg4, st0_main_arg5]
  rfl

/-- The activations when the region starts. -/
theorem V_x (c : Dev nD) : V m c main_v60 = shapeCast S6144x8192 (m ((c : Thread nD τ).loc main_arg0)) shapeCasts_S3x2048x8192_S6144x8192 := by
  rw [V_eq]
  rw [st6_main_v60, st5_main_arg0, st4_main_arg0, st3_main_arg0, st2_main_arg0, st1_main_arg0, st0_main_arg0]

/-- The columns' scales when the region starts. -/
theorem V_ws (c : Dev nD) : V m c main_v61 = shapeCast S1x10240 (m ((c : Thread nD τ).loc main_arg2)) shapeCasts_S10240_S1x10240 := by
  rw [V_eq]
  rw [st6_main_v61, st5_main_arg2, st4_main_arg2, st3_main_arg2, st2_main_arg2, st1_main_arg2, st0_main_arg2]

/-- The adapters' part when the region starts. -/
theorem V_lora (c : Dev nD) : V m c main_v62 = LORA (HIDDEN (m ((c : Thread nD τ).loc main_arg0)) (m ((c : Thread nD τ).loc main_arg6)) (WEIGHT (m ((c : Thread nD τ).loc main_arg5)) (GATESm m c)) (COLS (constantI S384 1 0#1) CTABLE)) (m ((c : Thread nD τ).loc main_arg7)) := by
  rw [V_eq]
  rw [st6_main_v62, st5_main_v30, st5_main_c, st5_main_c_0, st5_main_arg0, st5_main_arg5, st5_main_arg6, st5_main_arg7, st4_main_v29, st4_main_c, st4_main_c_0, st4_main_arg0, st4_main_arg5, st4_main_arg6, st4_main_arg7, st3_main_arg0, st3_main_arg3, st3_main_arg4, st3_main_arg5, st3_main_arg6, st3_main_arg7, st3_main_c, st3_main_c_0, st2_main_arg0, st2_main_arg3, st2_main_arg4, st2_main_arg5, st2_main_arg6, st2_main_arg7, st2_main_c, st2_main_c_0, st1_main_arg0, st1_main_arg3, st1_main_arg4, st1_main_arg5, st1_main_arg6, st1_main_arg7, st1_main_c, st1_main_c_0, st0_main_arg0, st0_main_arg3, st0_main_arg4, st0_main_arg5, st0_main_arg6, st0_main_arg7, st0_main_c, st0_main_c_0]
  rfl

end Cert.Ref

end
-- ==== Proof.Scale.lean ====
module

public import proofs.«01_k».proof.ReferenceIdeal
public import Idealize.ShloMosaic.Lib.Pointwise
public import Idealize.ShloMosaic.Lib.IdealHost

@[expose] public section

set_option maxRecDepth 16384

noncomputable section

namespace Cert.Scale

open Idealize.ShloMosaic

/-- The float whose exponent field is `k` and whose other bits are zero. -/
def pw (k : Nat) : EReal := Ideal.ofBits .f32 (BitVec.ofNat 32 (k * 2 ^ 23))

/-- At the exponent field 0 it is zero. -/
theorem pw_zero : pw 0 = 0 := by
  simp [pw]

/-- A nonnegative word of a normal exponent field and no fraction is a power of two. -/
theorem ieee_pow {b : BitVec 32} {k : Nat} (h1 : 1 ≤ k) (h2 : k ≤ 254) (e1 : (b.extractLsb' 23 8).toNat = k)
    (e2 : (b.extractLsb' 0 23).toNat = 0) (e3 : (b.extractLsb' 31 1 == 1#1) = false) :
    Ideal.ofBits .f32 b = (((2 : ℝ) ^ ((k : ℤ) - 127) : ℝ) : EReal) := by
  have hr : (1 : ℝ) * ((8388608 : ℕ) : ℝ) * (2 : ℝ) ^ ((k : ℤ) - 127 - 23) = (2 : ℝ) ^ ((k : ℤ) - 127) := by
    rw [zpow_sub₀ (by norm_num : (2 : ℝ) ≠ 0) ((k : ℤ) - 127) 23]
    have : (2 : ℝ) ^ (23 : ℤ) = 8388608 := by norm_num
    rw [this]; push_cast; field_simp
  rw [← hr]
  unfold Ideal.ofBits Ideal.ieee
  simp only [e1, e2, Nat.reduceAdd, e3]
  rw [if_neg (by omega), if_neg (by omega)]
  norm_num

/-- The exponent field of its word. -/
theorem field_toNat {k : Nat} (h : k ≤ 255) : ((BitVec.ofNat 32 (k * 2 ^ 23)).extractLsb' 23 8).toNat = k := by
  rw [BitVec.extractLsb'_toNat, BitVec.toNat_ofNat, Nat.shiftRight_eq_div_pow]; omega

/-- The fraction of its word. -/
theorem frac_toNat (k : Nat) : ((BitVec.ofNat 32 (k * 2 ^ 23)).extractLsb' 0 23).toNat = 0 := by
  rw [BitVec.extractLsb'_toNat, BitVec.toNat_ofNat, Nat.shiftRight_eq_div_pow]; omega

/-- The sign of its word. -/
theorem sign_eq {k : Nat} (h : k ≤ 255) : ((BitVec.ofNat 32 (k * 2 ^ 23)).extractLsb' 31 1 == 1#1) = false := by
  have h0 : ((BitVec.ofNat 32 (k * 2 ^ 23)).extractLsb' 31 1).toNat = (0#1).toNat := by
    rw [BitVec.extractLsb'_toNat, BitVec.toNat_ofNat, Nat.shiftRight_eq_div_pow, BitVec.toNat_ofNat]; omega
  rw [BitVec.eq_of_toNat_eq h0]; decide

/-- At a normal exponent field it is a power of two. -/
theorem pw_normal {k : Nat} (h1 : 1 ≤ k) (h2 : k ≤ 254) : pw k = (((2 : ℝ) ^ ((k : ℤ) - 127) : ℝ) : EReal) :=
  ieee_pow h1 h2 (field_toNat (by omega)) (frac_toNat k) (sign_eq (by omega))

/-- It is strictly monotone in the exponent field. -/
theorem pw_lt {j k : Nat} (h : j < k) (hk : k ≤ 254) : pw j < pw k := by
  rw [pw_normal (by omega) hk]
  rcases Nat.eq_zero_or_pos j with rfl | hj
  · rw [pw_zero]; exact_mod_cast (by positivity : (0 : ℝ) < 2 ^ ((k : ℤ) - 127))
  · rw [pw_normal hj (by omega)]
    exact_mod_cast zpow_lt_zpow_right₀ (by norm_num : (1 : ℝ) < 2) (by omega : (j : ℤ) - 127 < (k : ℤ) - 127)

/-- It is monotone in the exponent field. -/
theorem pw_le {j k : Nat} (h : j ≤ k) (hk : k ≤ 254) : pw j ≤ pw k := by
  rcases Nat.eq_or_lt_of_le h with rfl | h
  · exact le_rfl
  · exact (pw_lt h hk).le

/-- A nonnegative word of exponent field 255 and no fraction is the largest value. -/
theorem ieee_top {b : BitVec 32} (e1 : (b.extractLsb' 23 8).toNat = 255) (e2 : (b.extractLsb' 0 23).toNat = 0)
    (e3 : (b.extractLsb' 31 1 == 1#1) = false) : Ideal.ofBits .f32 b = ⊤ := by
  unfold Ideal.ofBits Ideal.ieee
  simp only [e1, e2, Nat.reduceAdd, e3]
  norm_num

/-- The exponent field 255 is the largest of all. -/
theorem pw_255 : pw 255 = ⊤ := ieee_top (field_toNat le_rfl) (frac_toNat 255) (sign_eq le_rfl)

/-- One step of the search: the bit `b` joins the exponent field `e` when the float there is at most `q`. -/
def step (q : EReal) (e b : BitVec 32) : BitVec 32 :=
  Scalar.select (Ideal.cmp .oge q (Ideal.ofBits .f32 (IntOp.shli .vector (IntOp.addi e b) 23#32))) (IntOp.addi e b) e

/-- The eight steps of the search. -/
def search (q : EReal) : BitVec 32 :=
  step q (step q (step q (step q (step q (step q (step q (step q 0#32 128#32) 64#32) 32#32) 16#32) 8#32) 4#32) 2#32) 1#32

/-- The shifted word of a number below 256 is its exponent field's. -/
theorem shl_ofNat {k : Nat} (h : k ≤ 255) : IntOp.shli .vector (BitVec.ofNat 32 k) 23#32 = BitVec.ofNat 32 (k * 2 ^ 23) := by
  unfold IntOp.shli
  rw [if_pos (by decide)]
  apply BitVec.eq_of_toNat_eq
  simp [BitVec.toNat_shiftLeft, Nat.shiftLeft_eq]

/-- A step on numbers. -/
theorem step_ofNat (q : EReal) {e b : Nat} (h : e + b ≤ 255) :
    step q (BitVec.ofNat 32 e) (BitVec.ofNat 32 b) = BitVec.ofNat 32 (if pw (e + b) ≤ q then e + b else e) := by
  have ha : IntOp.addi (BitVec.ofNat 32 e) (BitVec.ofNat 32 b) = BitVec.ofNat 32 (e + b) := by
    simp [IntOp.addi, BitVec.ofNat_add]
  unfold step
  rw [ha, shl_ofNat h]
  change Scalar.select (Ideal.cmp .oge q (pw (e + b))) _ _ = _
  by_cases hq : pw (e + b) ≤ q
  · simp [Ideal.cmp, hq, Scalar.select]
  · simp [Ideal.cmp, hq, Scalar.select]

/-- What the search keeps: the field found so far is at most `q`'s and `q` is below every field the bits left cannot reach. -/
def Inv (q : EReal) (e w : Nat) : Prop := pw e ≤ q ∧ ∀ k, e + w ≤ k → k ≤ 255 → q < pw k

/-- A step halves what is left. -/
theorem inv_step {q : EReal} {e b : Nat} (h : Inv q e (2 * b)) (hb : e + b ≤ 255) :
    ∃ e', step q (BitVec.ofNat 32 e) (BitVec.ofNat 32 b) = BitVec.ofNat 32 e' ∧ Inv q e' b ∧ e' ≤ e + b := by
  refine ⟨_, step_ofNat q hb, ?_⟩
  split_ifs with hq
  · exact ⟨⟨hq, fun k hk => h.2 k (by omega)⟩, le_rfl⟩
  · refine ⟨⟨h.1, fun k hk hk' => ?_⟩, by omega⟩
    rcases Nat.lt_or_ge k 255 with h5 | h5
    · exact lt_of_lt_of_le (not_le.mp hq) (pw_le hk (by omega))
    · obtain rfl : k = 255 := by omega
      rw [pw_255]
      exact lt_of_lt_of_le (not_le.mp hq) le_top

/-- THE SEARCH finds the exponent field: the largest whose float is at most `q`. -/
theorem search_spec {q : EReal} (h0 : 0 ≤ q) :
    ∃ e, search q = BitVec.ofNat 32 e ∧ pw e ≤ q ∧ e ≤ 255 ∧ (e < 255 → q < pw (e + 1)) := by
  have i0 : Inv q 0 (2 * 128) := ⟨by rw [pw_zero]; exact h0, fun k hk hk' => by omega⟩
  obtain ⟨e1, s1, i1, b1⟩ := inv_step i0 (by omega)
  obtain ⟨e2, s2, i2, b2⟩ := inv_step (b := 64) i1 (by omega)
  obtain ⟨e3, s3, i3, b3⟩ := inv_step (b := 32) i2 (by omega)
  obtain ⟨e4, s4, i4, b4⟩ := inv_step (b := 16) i3 (by omega)
  obtain ⟨e5, s5, i5, b5⟩ := inv_step (b := 8) i4 (by omega)
  obtain ⟨e6, s6, i6, b6⟩ := inv_step (b := 4) i5 (by omega)
  obtain ⟨e7, s7, i7, b7⟩ := inv_step (b := 2) i6 (by omega)
  obtain ⟨e8, s8, i8, b8⟩ := inv_step (b := 1) i7 (by omega)
  refine ⟨e8, ?_, i8.1, by omega, fun h => i8.2 (e8 + 1) (by omega) (by omega)⟩
  unfold search
  rw [s1, s2, s3, s4, s5, s6, s7, s8]

/-- The reference's table of powers holds exponent fields 2 to 254. -/
theorem table_eq : ∀ k : Fin 253, Cert.ReferenceIdeal.lit0 k = BitVec.ofNat 32 ((k.val + 2) * 2 ^ 23) := by
  decide +kernel

/-- The reference's least power of two above `q`. -/
def least (q : EReal) : EReal :=
  Finset.univ.fold min (Ideal.ofBits .f32 0x7F800000#32) fun k : Fin 253 =>
    if q < Ideal.ofBits .f32 (Cert.ReferenceIdeal.lit0 k) then Ideal.ofBits .f32 (Cert.ReferenceIdeal.lit0 k)
    else Ideal.ofBits .f32 0x7F800000#32

/-- The reference's scale of a row whose greatest absolute value over 448 is `q`. -/
def scale (q : EReal) : EReal := if q < Ideal.ofBits .f32 0x00800000#32 then 1 else least q

/-- The kernel's exponent of a row. -/
def kexp (a q : EReal) : BitVec 32 :=
  if a = 0 then 0#32 else
    Scalar.select (IntOp.ori (IntOp.cmpi .eq (search q) 0#32) (IntOp.cmpi .eq (search q) 255#32)) 0#32
      (IntOp.subi (search q) 126#32)

/-- The kernel's scale of a row. -/
def kscale (a q : EReal) : EReal := Ideal.ofBits .f32 (IntOp.shli .vector (IntOp.addi 127#32 (kexp a q)) 23#32)

/-- The kernel's reciprocal scale of a row. -/
def kinv (a q : EReal) : EReal := Ideal.ofBits .f32 (IntOp.shli .vector (IntOp.subi 127#32 (kexp a q)) 23#32)

/-- The largest value is the pattern of infinity. -/
theorem ofBits_inf : Ideal.ofBits .f32 0x7F800000#32 = ⊤ := ieee_top (by decide) (by decide) (by decide)

/-- The smallest normal is the exponent field 1. -/
theorem ofBits_tiny : Ideal.ofBits .f32 0x00800000#32 = pw 1 := rfl

/-- The exponent field 127 is one. -/
theorem pw_127 : pw 127 = 1 := by
  rw [pw_normal (by norm_num) (by norm_num)]; norm_num

/-- The least power above `q` is the next exponent field. -/
theorem least_eq {q : EReal} {e : Nat} (h1 : 1 ≤ e) (h2 : e ≤ 252) (hl : pw e ≤ q) (hu : q < pw (e + 1)) :
    least q = pw (e + 1) := by
  have ht : ∀ k : Fin 253, Ideal.ofBits .f32 (Cert.ReferenceIdeal.lit0 k) = pw (k.val + 2) := fun k => by
    rw [table_eq]; rfl
  unfold least
  simp only [ht, ofBits_inf]
  apply le_antisymm
  · rw [Finset.fold_min_le]
    refine .inr ⟨⟨e - 1, by omega⟩, Finset.mem_univ _, ?_⟩
    have : e - 1 + 2 = e + 1 := by omega
    simp only [this]
    rw [if_pos hu]
  · rw [Finset.le_fold_min]
    refine ⟨le_top, fun k _ => ?_⟩
    split_ifs with hk
    · by_contra hc
      have hlt : k.val + 2 ≤ e := by
        by_contra h
        exact hc (pw_le (by omega) (by have := k.isLt; omega))
      exact absurd (lt_of_lt_of_le hk (pw_le hlt (by omega))) (not_lt.mpr hl)
    · exact le_top

/-- The reciprocal of a power of two. -/
theorem inv_pw {e : Nat} (h1 : 1 ≤ e) (h2 : e ≤ 252) : Ideal.div 1 (pw (e + 1)) = pw (253 - e) := by
  have hp : (0 : ℝ) < (2 : ℝ) ^ (((e + 1 : ℕ) : ℤ) - 127) := by positivity
  rw [pw_normal (by omega) (by omega), pw_normal (by omega) (by omega)]
  unfold Ideal.div
  rw [if_neg (by exact_mod_cast hp.ne'), one_mul, ← EReal.coe_inv, ← zpow_neg]
  congr 2
  omega

/-- The kernel's scale and its reciprocal are the reference's. -/
theorem kscale_eq {a q : EReal} (h0 : 0 ≤ q) (hq : q < pw 253) (ha : a = 0 → q = 0) :
    kscale a q = scale q ∧ kinv a q = Ideal.div 1 (scale q) := by
  obtain ⟨e, hs, hl, hb, hu⟩ := search_spec h0
  have he : e ≤ 252 := by
    by_contra h
    rcases Nat.lt_or_ge e 255 with h5 | h5
    · exact absurd (lt_of_le_of_lt hl hq) (not_lt.mpr (pw_le (by omega) (by omega)))
    · obtain rfl : e = 255 := by omega
      rw [pw_255] at hl
      exact absurd (lt_of_le_of_lt hl hq) (not_lt.mpr le_top)
  have hu := hu (by omega)
  rcases Nat.eq_zero_or_pos e with rfl | he1
  · have hk : kexp a q = 0#32 := by
      unfold kexp; rw [hs]; split_ifs <;> rfl
    have hsc : scale q = 1 := by
      unfold scale; rw [ofBits_tiny, if_pos hu]
    have h127 : Ideal.ofBits .f32 (IntOp.shli .vector 127#32 23#32) = 1 := by
      rw [← pw_127, pw, ← shl_ofNat (by norm_num)]
    unfold kscale kinv
    rw [hk, hsc]
    refine ⟨?_, ?_⟩
    · rw [← h127]; rfl
    · have : Ideal.div 1 1 = 1 := by simp [Ideal.div]
      rw [this, ← h127]; rfl
  · have ha' : a ≠ 0 := fun h => by
      rw [ha h] at hl
      exact absurd (lt_of_lt_of_le (pw_zero ▸ pw_lt he1 (by omega)) hl) (lt_irrefl 0)
    have hne0 : BitVec.ofNat 32 e ≠ 0#32 := fun h => by
      have := congrArg BitVec.toNat h
      simp only [BitVec.toNat_ofNat] at this; omega
    have hne5 : BitVec.ofNat 32 e ≠ 255#32 := fun h => by
      have := congrArg BitVec.toNat h
      simp only [BitVec.toNat_ofNat] at this; omega
    have hk : kexp a q = BitVec.ofNat 32 e - 126#32 := by
      unfold kexp; rw [if_neg ha', hs]
      have h0' : (BitVec.ofNat 32 e == 0#32) = false := beq_eq_false_iff_ne.mpr hne0
      have h5' : (BitVec.ofNat 32 e == 255#32) = false := beq_eq_false_iff_ne.mpr hne5
      simp only [IntOp.cmpi, h0', h5']
      rfl
    have hsc : scale q = pw (e + 1) := by
      unfold scale
      rw [ofBits_tiny, if_neg (not_lt.mpr ((pw_le he1 (by omega)).trans hl)), least_eq he1 he hl hu]
    have hadd : IntOp.addi 127#32 (BitVec.ofNat 32 e - 126#32) = BitVec.ofNat 32 (e + 1) := by
      unfold IntOp.addi
      apply BitVec.eq_of_toNat_eq
      simp only [BitVec.toNat_add, BitVec.toNat_sub, BitVec.toNat_ofNat]; omega
    have hsub : IntOp.subi 127#32 (BitVec.ofNat 32 e - 126#32) = BitVec.ofNat 32 (253 - e) := by
      unfold IntOp.subi
      apply BitVec.eq_of_toNat_eq
      simp only [BitVec.toNat_sub, BitVec.toNat_ofNat]; omega
    unfold kscale kinv
    rw [hk, hsc, hadd, hsub, shl_ofNat (by omega), shl_ofNat (by omega), inv_pw he1 he]
    exact ⟨rfl, rfl⟩

end Cert.Scale

end
-- ==== Proof.Spec.lean ====
module

public import proofs.«01_k».proof.Proof.Scale

@[expose] public section

set_option maxRecDepth 16384

noncomputable section

namespace Cert.Spec

open Idealize.ShloMosaic

/-- The greatest absolute value of a row. -/
def amax (x : Fin 8192 → EReal) : EReal := Finset.univ.fold max ⊥ fun k => max (x k) (-(x k))

/-- That over 448, as the product by the f32 nearest its reciprocal. -/
def quot (x : Fin 8192 → EReal) : EReal := amax x * Ideal.ofBits .f32 0x3B124925#32

/-- The scale of a row. -/
def scale (x : Fin 8192 → EReal) : EReal := Scale.scale (quot x)

/-- A code of a row: the value over the row's scale, clipped. -/
def code (x : Fin 8192 → EReal) (k : Fin 8192) : EReal :=
  min (Ideal.ofBits .f32 0x43E00000#32) (max (Ideal.ofBits .f32 0xC3E00000#32) (x k * Ideal.div 1 (scale x)))

/-- A code of a row by the kernel's reciprocal. -/
def kcode (x : Fin 8192 → EReal) (k : Fin 8192) : EReal :=
  min (Ideal.ofBits .f32 0x43E00000#32) (max (Ideal.ofBits .f32 0xC3E00000#32) (x k * Scale.kinv (amax x) (quot x)))

/-- The scale of a row by the kernel's exponent. -/
def kscale (x : Fin 8192 → EReal) : EReal := Scale.kscale (amax x) (quot x)

/-- The router logits of a row. -/
def logit (x : Fin 8192 → EReal) (w : Fin 8192 → Fin 16 → EReal) (b : Fin 16 → EReal) (e : Fin 16) : EReal :=
  (∑ k, x k * w k e) + b e

/-- The softmax of a row of logits. -/
def prob (l : Fin 16 → EReal) (e : Fin 16) : EReal :=
  Ideal.div (Ideal.exp (l e - Finset.univ.fold max ⊥ l)) (∑ e', Ideal.exp (l e' - Finset.univ.fold max ⊥ l))

/-- The probability of the expert a word names. -/
def pick (p : Fin 16 → EReal) (i : BitVec 32) : EReal := ∑ e : Fin 16, if BitVec.ofNat 32 e.val = i then p e else 0

/-- The gates of a row: the chosen probabilities over their sum. -/
def gate (p : Fin 16 → EReal) (i : Fin 2 → BitVec 32) (j : Fin 2) : EReal :=
  Ideal.div (pick p (i j)) (pick p (i 0) + pick p (i 1))

/-- The gates of a row from its activations. -/
def gates (x : Fin 8192 → EReal) (w : Fin 8192 → Fin 16 → EReal) (b : Fin 16 → EReal) (i : Fin 2 → BitVec 32) : Fin 2 → EReal :=
  gate (prob (logit x w b)) i

/-- A row's weight of the expert a word names. -/
def weight (g : Fin 2 → EReal) (i : Fin 2 → BitVec 32) (e : BitVec 32) : EReal :=
  ((if e = i 0 then g 0 else 0) + (if e = i 1 then g 1 else 0)) * Ideal.ofBits .f32 0x40000000#32

/-- A gated hidden feature of a row. -/
def hidden (x : Fin 8192 → EReal) (la : Fin 8192 → Fin 384 → EReal) (g : Fin 2 → EReal) (i : Fin 2 → BitVec 32)
    (c : Fin 384) : EReal :=
  (∑ k, x k * la k c) * weight g i (Cert.ReferenceIdeal.lit1 c)

/-- An element of the output from a row of codes and a row of hidden features. -/
def out (c : Fin 8192 → EReal) (w : Fin 8192 → EReal) (xs ws : EReal) (h : Fin 384 → EReal) (lb : Fin 384 → EReal) : EReal :=
  (∑ k, c k * w k) * xs * ws + ∑ r, h r * lb r

/-- The gates depend on the values alone. -/
theorem gates_congr {x x' : Fin 8192 → EReal} {w w' : Fin 8192 → Fin 16 → EReal} {b b' : Fin 16 → EReal} {i i' : Fin 2 → BitVec 32}
    (hx : ∀ k, x k = x' k) (hw : ∀ k e, w k e = w' k e) (hb : ∀ e, b e = b' e) (hi : ∀ j, i j = i' j) : gates x w b i = gates x' w' b' i' := by
  obtain rfl := funext hx
  obtain rfl := funext fun k => funext (hw k)
  obtain rfl := funext hb
  obtain rfl := funext hi
  rfl

/-- The hidden features depend on the values alone. -/
theorem hidden_congr {x x' : Fin 8192 → EReal} {a a' : Fin 8192 → Fin 384 → EReal} {g g' : Fin 2 → EReal} {i i' : Fin 2 → BitVec 32}
    (hx : ∀ k, x k = x' k) (ha : ∀ k e, a k e = a' k e) (hg : g = g') (hi : ∀ j, i j = i' j) (c : Fin 384) :
    hidden x a g i c = hidden x' a' g' i' c := by
  obtain rfl := funext hx
  obtain rfl := funext fun k => funext (ha k)
  obtain rfl := hg
  obtain rfl := funext hi
  rfl

/-- The output depends on the values alone. -/
theorem out_congr {c c' w w' : Fin 8192 → EReal} {xs xs' ws ws' : EReal} {h h' lb lb' : Fin 384 → EReal}
    (hc : ∀ k, c k = c' k) (hw : ∀ k, w k = w' k) (hx : xs = xs') (hs : ws = ws') (hh : ∀ r, h r = h' r) (hl : ∀ r, lb r = lb' r) :
    out c w xs ws h lb = out c' w' xs' ws' h' lb' := by
  obtain rfl := funext hc
  obtain rfl := funext hw
  obtain rfl := hx
  obtain rfl := hs
  obtain rfl := funext hh
  obtain rfl := funext hl
  rfl

end Cert.Spec

end
-- ==== Proof.Gathers.lean ====
module

public import Idealize.ShloMosaic.Lib.Pointwise

@[expose] public section

set_option maxRecDepth 16384

noncomputable section

namespace Cert.Gathers

open Idealize.ShloMosaic

variable {α : Type}

/-- The dimension numbers of a take along the last of three axes, the others matched. -/
abbrev lastDims (A B E J : Nat)
    (wf : GatherDims.WF ⟨3, ![A, B, E]⟩ ⟨4, ![A, B, J, 1]⟩ ⟨3, ![A, B, J]⟩ [] [2] [0, 1] [2] [0, 1] 3 ![1, 1, 1]) :
    GatherDims ⟨3, ![A, B, E]⟩ ⟨4, ![A, B, J, 1]⟩ ⟨3, ![A, B, J]⟩ where
  offsetDims := []
  collapsedSliceDims := [2]
  operandBatchingDims := [0, 1]
  startIndicesBatchingDims := [0, 1]
  startIndexMap := [2]
  indexVectorDim := 3
  sliceSizes := ![1, 1, 1]
  wf := wf

/-- That take, read at an index: the element of the same first coordinates that the clamped word names. -/
theorem last_apply {A B E J w : Nat} (hE : 0 < E)
    (wf : GatherDims.WF ⟨3, ![A, B, E]⟩ ⟨4, ![A, B, J, 1]⟩ ⟨3, ![A, B, J]⟩ [] [2] [0, 1] [2] [0, 1] 3 ![1, 1, 1])
    (x : (⟨3, ![A, B, E]⟩ : Shape).Idx → α) (idx : IVec ⟨4, ![A, B, J, 1]⟩ w) (a : Fin A) (b : Fin B) (j : Fin J) :
    Host.gather (lastDims A B E J wf) x idx (ix3 a b j)
      = x (ix3 a b ⟨min (idx (ix4 a b j 0)).toInt.toNat (E - 1), by omega⟩) := by
  unfold Host.gather
  congr 1
  funext d
  refine Fin.ext ?_
  show (lastDims A B E J wf).start (ix3 a b j) idx d + (lastDims A B E J wf).batchCoord (ix3 a b j) d
      + (lastDims A B E J wf).offCoord (ix3 a b j) d = _
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (show (0 : Fin 3) ∈ [(0 : Fin 3), 1] by decide),
      GatherDims.offCoord_eq_zero _ _ _ (fun h => ((GatherDims.mem_sKept _ _).mp h).2 (show (0 : Fin 3) ∈ [(0 : Fin 3), 1] by decide))]
    simp only [Nat.zero_add, Nat.add_zero]
    unfold GatherDims.batchCoord
    rw [dif_pos (show (0 : Fin 3) ∈ [(0 : Fin 3), 1] by decide)]
    rfl
  · rw [GatherDims.start_batching _ _ _ _ (show (1 : Fin 3) ∈ [(0 : Fin 3), 1] by decide),
      GatherDims.offCoord_eq_zero _ _ _ (fun h => ((GatherDims.mem_sKept _ _).mp h).2 (show (1 : Fin 3) ∈ [(0 : Fin 3), 1] by decide))]
    simp only [Nat.zero_add, Nat.add_zero]
    unfold GatherDims.batchCoord
    rw [dif_pos (show (1 : Fin 3) ∈ [(0 : Fin 3), 1] by decide)]
    rfl
  · rw [GatherDims.batchCoord_eq_zero _ _ _ (show (2 : Fin 3) ∉ [(0 : Fin 3), 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims A B E J wf).startIndexMap from List.mem_singleton.mpr rfl)]
    have hsi : (lastDims A B E J wf).siIdx (ix3 a b j) ⟨List.idxOf (2 : Fin 3) (lastDims A B E J wf).startIndexMap,
        List.idxOf_lt_length_iff.2 (List.mem_singleton.mpr rfl)⟩ = ix4 a b j 0 := by
      funext b; refine Fin.ext ?_
      match b with
      | ⟨0, _⟩ => rfl
      | ⟨1, _⟩ => rfl
      | ⟨2, _⟩ => rfl
      | ⟨3, _⟩ => rfl
    rw [hsi]
    rfl

/-- The dimension numbers of a choice of columns of the last of three axes. -/
abbrev colDims (A B E C : Nat)
    (wf : GatherDims.WF ⟨3, ![A, B, E]⟩ ⟨2, ![C, 1]⟩ ⟨3, ![A, B, C]⟩ [0, 1] [2] [] [2] [] 1 ![A, B, 1]) :
    GatherDims ⟨3, ![A, B, E]⟩ ⟨2, ![C, 1]⟩ ⟨3, ![A, B, C]⟩ where
  offsetDims := [0, 1]
  collapsedSliceDims := [2]
  operandBatchingDims := []
  startIndicesBatchingDims := []
  startIndexMap := [2]
  indexVectorDim := 1
  sliceSizes := ![A, B, 1]
  wf := wf

/-- That choice, read at an index: the element of the same first coordinates that the clamped word of its column names. -/
theorem col_apply {A B E C w : Nat} (hE : 0 < E)
    (wf : GatherDims.WF ⟨3, ![A, B, E]⟩ ⟨2, ![C, 1]⟩ ⟨3, ![A, B, C]⟩ [0, 1] [2] [] [2] [] 1 ![A, B, 1])
    (x : (⟨3, ![A, B, E]⟩ : Shape).Idx → α) (idx : IVec ⟨2, ![C, 1]⟩ w) (a : Fin A) (b : Fin B) (c : Fin C) :
    Host.gather (colDims A B E C wf) x idx (ix3 a b c)
      = x (ix3 a b ⟨min (idx (ix2 c 0)).toInt.toNat (E - 1), by omega⟩) := by
  unfold Host.gather
  congr 1
  funext d
  refine Fin.ext ?_
  show (colDims A B E C wf).start (ix3 a b c) idx d + (colDims A B E C wf).batchCoord (ix3 a b c) d
      + (colDims A B E C wf).offCoord (ix3 a b c) d = _
  rw [GatherDims.batchCoord_eq_zero _ _ _ List.not_mem_nil]
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show (0 : Fin 3) ∉ [(2 : Fin 3)] by decide), dif_pos ((GatherDims.mem_sKept _ _).mpr ⟨(show (0 : Fin 3) ∉ [(2 : Fin 3)] by decide), List.not_mem_nil⟩)]
    simp only [Nat.zero_add, Nat.add_zero]
    rfl
  · unfold GatherDims.start GatherDims.offCoord
    rw [dif_neg (show (1 : Fin 3) ∉ [(2 : Fin 3)] by decide), dif_pos ((GatherDims.mem_sKept _ _).mpr ⟨(show (1 : Fin 3) ∉ [(2 : Fin 3)] by decide), List.not_mem_nil⟩)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims A B E C wf).startIndexMap from List.mem_singleton.mpr rfl)]
    have hsi : (colDims A B E C wf).siIdx (ix3 a b c) ⟨List.idxOf (2 : Fin 3) (colDims A B E C wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl

/-- The position of an index of one axis is its coordinate. -/
theorem rowMajor_ix1 {n : Nat} (k : Fin n) : ((⟨1, ![n]⟩ : Shape).rowMajor (ix1 k)).val = k.val := by
  rw [Shape.rowMajor_val_one]
  rfl

end Cert.Gathers

end
-- ==== Proof.RVal.lean ====
module

public import proofs.«01_k».proof.Proof.RefTerms
public import proofs.«01_k».proof.Proof.Spec
public import proofs.«01_k».proof.Proof.Gathers

@[expose] public section

set_option maxRecDepth 16384

noncomputable section

namespace Cert.RVal

open Idealize.ShloMosaic Idealize.ShloMosaic.TcCoe Idealize.SL.Sem
open Cert.ReferenceIdeal Cert.ReferenceIdeal.Gen

/-- The pattern of minus infinity in f32 is the least value. -/
theorem f32_bot : Ideal.ofBits .f32 4286578688#32 = ⊥ := by
  unfold Ideal.ofBits Ideal.ieee
  have e1 : ((4286578688#32).extractLsb' 23 8).toNat = 255 := by decide
  have e2 : ((4286578688#32).extractLsb' 0 23).toNat = 0 := by decide
  have e3 : ((4286578688#32).extractLsb' 31 1 == 1#1) = true := by decide
  simp only [e1, e2, Nat.reduceAdd, e3]
  norm_num

/-- The greatest absolute value of a row, as the reference finds it. -/
theorem top (X : FVec Ideal S3x2048x8192 .bf16) (b : Fin 3) (s : Fin 2048) :
    Host.reduce FloatOps.maximumf (Host.absf (extf .f32 X bitsLt_bf16_f32)) (constant (F := Ideal) S_ .f32 0xFF800000#32)
      reducesTo_S3x2048x8192_S3x2048_d2 h_S_ (ix2 b s) = Spec.amax fun k => X (ix3 b s k) := by
  pointwise []
  rw [f32_bot]
  unfold Spec.amax
  rfl

/-- Products by a constant, at an index. -/
theorem mul_const (z : FVec Ideal S3x2048 .f32) (c : BitVec 32) (i : S3x2048.Idx) :
    mulf z (broadcastInDim S3x2048 ![] bcast_S_S3x2048 (constant (F := Ideal) S_ .f32 c)) i = z i * Ideal.ofBits .f32 c := rfl

/-- The reference's quotient of a row. -/
theorem quot (X : FVec Ideal S3x2048x8192 .bf16) (b : Fin 3) (s : Fin 2048) :
    Ref.QUOT X (ix2 b s) = Spec.quot fun k => X (ix3 b s k) := by
  unfold Ref.QUOT Spec.quot
  rw [← top]
  exact mul_const _ _ _

/-- The reference's scale from the quotient. -/
theorem scale (Q : FVec Ideal S3x2048 .f32) (b : Fin 3) (s : Fin 2048) :
    Ref.SCALE Q (ix2 b s) = Scale.scale (Q (ix2 b s)) := by
  have hk (k : Fin 253) : S253.rowMajor (ix1 k) = k := Fin.ext (Gathers.rowMajor_ix1 k)
  pointwise [Ref.SCALE, Ref.CHOOSE, Ref.SMALL, Ref.LEAST, Ref.POWERS, Ref.ABOVE, Ref.TABLE]
  simp only [hk]
  unfold Scale.scale Scale.least
  with_reducible rfl

/-- The reference's router logits. -/
theorem logits (X : FVec Ideal S3x2048x8192 .bf16) (RW : FVec Ideal S8192x16 .bf16) (RB : FVec Ideal S16 .f32) (b : Fin 3) (s : Fin 2048)
    (e : Fin 16) :
    Ref.LOGITS X RW RB (ix3 b s e) = Spec.logit (fun k => X (ix3 b s k)) (fun k e => RW (ix2 k e)) (fun e => RB (ix1 e)) e := by
  pointwise [Ref.LOGITS]
  unfold Spec.logit
  with_reducible rfl

/-- The reference's probabilities. -/
theorem probs (L : FVec Ideal S3x2048x16 .f32) (b : Fin 3) (s : Fin 2048) (e : Fin 16) :
    Ref.PROBS (Ref.EXPS L) (ix3 b s e) = Spec.prob (fun e => L (ix3 b s e)) e := by
  pointwise [Ref.PROBS, Ref.EXPS]
  simp only [f32_bot, bot_sup_eq, max_bot_left]
  unfold Spec.prob
  with_reducible rfl

/-- An index in range is not moved. -/
theorem wrap (I : IVec S3x2048x2 32) (b : Fin 3) (s : Fin 2048) (j : Fin 2) (z : Fin 1) (e : Fin 16)
    (h : I (ix3 b s j) = BitVec.ofNat 32 e.val) : Ref.WRAP I (ix4 b s j z) = BitVec.ofNat 32 e.val := by
  pointwise [Ref.WRAP]
  rw [h]
  clear h
  revert e
  decide

/-- The probability of the expert an index in range names. -/
theorem take (P : FVec Ideal S3x2048x16 .f32) (W : IVec S3x2048x2x1 32) (b : Fin 3) (s : Fin 2048) (j : Fin 2) (e : Fin 16)
    (h : ∀ z, W (ix4 b s j z) = BitVec.ofNat 32 e.val) : Ref.TAKE P W (ix3 b s j) = P (ix3 b s e) := by
  have hg : Host.gather gather_S3x2048x16_S3x2048x2x1_S3x2048x2_n_2_01_01_2_3_111 P W (ix3 b s j) = P (ix3 b s e) := by
    refine (Gathers.last_apply (by norm_num) _ P W b s j).trans ?_
    congr 2
    refine Fin.ext ?_
    dsimp only
    rw [h]
    clear h
    revert e
    decide
  pointwise [Ref.TAKE]
  rw [hg]
  simp only [h]
  have hm : ∀ e : Fin 16, IntOp.andi (IntOp.cmpi .sge (BitVec.ofNat 32 e.val) 0#32) (IntOp.cmpi .sle (BitVec.ofNat 32 e.val) 15#32) = 1#1 := by decide
  simp only [hm]
  rfl

/-- A choice among the experts by their words. -/
theorem pick_eq (p : Fin 16 → EReal) (e : Fin 16) : Spec.pick p (BitVec.ofNat 32 e.val) = p e := by
  have h : ∀ e' e : Fin 16, (BitVec.ofNat 32 e'.val = BitVec.ofNat 32 e.val) ↔ e' = e := by decide
  unfold Spec.pick
  simp only [h, Finset.sum_ite_eq', Finset.mem_univ, if_true]

/-- The reference's gates. -/
theorem gates (T : FVec Ideal S3x2048x2 .f32) (b : Fin 3) (s : Fin 2048) (j : Fin 2) :
    Ref.GATES T (ix3 b s j) = Ideal.div (T (ix3 b s j)) (T (ix3 b s 0) + T (ix3 b s 1)) := by
  pointwise [Ref.GATES]

/-- The reference's gates of a row whose experts are in range. -/
theorem gates_row (X : FVec Ideal S3x2048x8192 .bf16) (RW : FVec Ideal S8192x16 .bf16) (RB : FVec Ideal S16 .f32) (I : IVec S3x2048x2 32)
    (b : Fin 3) (s : Fin 2048) (e : Fin 2 → Fin 16) (h : ∀ j, I (ix3 b s j) = BitVec.ofNat 32 (e j).val) (j : Fin 2) :
    Ref.GATES (Ref.TAKE (Ref.PROBS (Ref.EXPS (Ref.LOGITS X RW RB))) (Ref.WRAP I)) (ix3 b s j)
      = Spec.gates (fun k => X (ix3 b s k)) (fun k e => RW (ix2 k e)) (fun e => RB (ix1 e)) (fun j => I (ix3 b s j)) j := by
  have ht (j : Fin 2) := take (Ref.PROBS (Ref.EXPS (Ref.LOGITS X RW RB))) (Ref.WRAP I) b s j (e j) (fun z => wrap I b s j z (e j) (h j))
  rw [gates, ht, ht, ht]
  simp only [probs, logits]
  unfold Spec.gates Spec.gate
  simp only [h, pick_eq]

/-- A comparison for equality as a number. -/
theorem uitofp_eq (a b : BitVec 32) : FloatOps.uitofp (F := Ideal) .f32 (IntOp.cmpi .eq a b) = if a = b then (1 : EReal) else 0 := by
  unfold IntOp.cmpi
  by_cases h : a = b
  · subst h
    rw [if_pos rfl]
    simp only [beq_self_eq_true]
    show (((1#1).toNat : ℝ) : EReal) = 1
    norm_num
  · have hb : (a == b) = false := by simpa using h
    rw [if_neg h]
    simp only [hb]
    show (((0#1).toNat : ℝ) : EReal) = 0
    norm_num

/-- The reference's weights. -/
theorem weight (I : IVec S3x2048x2 32) (G : FVec Ideal S3x2048x2 .f32) (b : Fin 3) (s : Fin 2048) (e : Fin 16) :
    Ref.WEIGHT I G (ix3 b s e) = Spec.weight (fun j => G (ix3 b s j)) (fun j => I (ix3 b s j)) (BitVec.ofNat 32 e.val) := by
  pointwise [Ref.WEIGHT]
  rw [Fin.sum_univ_two, uitofp_eq, uitofp_eq]
  unfold Spec.weight
  simp only [ite_mul, one_mul, zero_mul, eq_comm (b := BitVec.ofNat 32 e.val)]

/-- The reference's words of the columns' experts. -/
theorem cols (c : Fin 384) (z : Fin 1) : Ref.COLS (constantI S384 1 0#1) Ref.CTABLE (ix2 c z) = lit1 c := by
  have hk (k : Fin 384) : S384.rowMajor (ix1 k) = k := Fin.ext (Gathers.rowMajor_ix1 k)
  pointwise [Ref.COLS, Ref.CTABLE]
  rw [hk]

/-- The words of the columns' experts are in range. -/
theorem lit1_mem : ∀ c : Fin 384, ∃ e : Fin 16, lit1 c = BitVec.ofNat 32 e.val := by
  decide +kernel

/-- The reference's hidden features. -/
theorem hidden (X : FVec Ideal S3x2048x8192 .bf16) (LA : FVec Ideal S8192x384 .bf16) (I : IVec S3x2048x2 32) (G : FVec Ideal S3x2048x2 .f32)
    (C : IVec S384x1 32) (hC : ∀ c, C (ix2 c 0) = lit1 c) (b : Fin 3) (s : Fin 2048) (c : Fin 384) :
    Ref.HIDDEN X LA (Ref.WEIGHT I G) C (ix3 b s c)
      = Spec.hidden (fun k => X (ix3 b s k)) (fun k c => LA (ix2 k c)) (fun j => G (ix3 b s j)) (fun j => I (ix3 b s j)) c := by
  obtain ⟨e, he⟩ := lit1_mem c
  have hg (W : FVec Ideal S3x2048x16 .f32) : Host.gather gather_S3x2048x16_S384x1_S3x2048x384_01_2_n_n_2_1_320481 W C (ix3 b s c) = W (ix3 b s e) := by
    refine (Gathers.col_apply (by norm_num) _ W C b s c).trans ?_
    congr 2
    refine Fin.ext ?_
    dsimp only
    rw [hC, he]
    clear he
    revert e
    decide
  have hw := weight I G b s e
  generalize Ref.WEIGHT I G = W at *
  pointwise [Ref.HIDDEN]
  rw [hg, hw]
  unfold Spec.hidden
  rw [he]

/-- The row of a token. -/
abbrev tokb (r : Fin 6144) : Fin 3 := ⟨r.val / 2048, by omega⟩
/-- The place of a token in its row. -/
abbrev toks (r : Fin 6144) : Fin 2048 := ⟨r.val % 2048, by omega⟩

/-- The reference's adapters' part, a token a row. -/
theorem lora (H : FVec Ideal S3x2048x384 .bf16) (LB : FVec Ideal S384x10240 .bf16) (r : Fin 6144) (n : Fin 10240) :
    Ref.LORA H LB (ix2 r n) = ∑ x, H (ix3 (tokb r) (toks r) x) * LB (ix2 x n) := by
  pointwise [Ref.LORA]

end Cert.RVal

end
-- ==== Proof.RArr.lean ====
module

public import proofs.«01_k».proof.Proof.RVal
public import proofs.«01_k».proof.Proof.Gen.ReferenceIdeal.Value
public import Idealize.ShloMosaic.Lib.Pipeline.ValueKit

@[expose] public section

set_option maxRecDepth 16384

noncomputable section

namespace Cert.RArr

open Idealize.ShloMosaic Idealize.ShloMosaic.TcCoe Idealize.SL.Sem
open Cert.ReferenceIdeal Cert.ReferenceIdeal.Gen

variable (m : (ℓ : Loc nD τ sig) → Buf (Elt Ideal) ℓ)

/-- Every block of the reference's region is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The codes' payload at an index. -/
theorem pay1 (x : Vec Ideal S6144x8192 .bf16) (s : Vec Ideal S6144x1 .f32) (r : Fin 6144) (k : Fin 8192) :
    k0_pay1 x s (ix2 r k) = min (Ideal.ofBits .f32 0x43E00000#32) (max (Ideal.ofBits .f32 0xC3E00000#32) (x (ix2 r k) * Ideal.div 1 (s (ix2 r 0)))) := by
  pointwise [k0_pay1]

/-- The output's payload at an index. -/
theorem pay2 (x : Vec Ideal S6144x8192 .bf16) (s : Vec Ideal S6144x1 .f32) (w : Vec Ideal S8192x10240 .fp8e4m3) (ws : Vec Ideal S1x10240 .f32)
    (l : Vec Ideal S6144x10240 .f32) (r : Fin 6144) (n : Fin 10240) :
    k0_pay2 x s w s ws l (ix2 r n) = (∑ k, k0_pay1 x s (ix2 r k) * w (ix2 k n)) * s (ix2 r 0) * ws (ix2 0 n) + l (ix2 r n) := by
  unfold k0_pay2
  have h : ∀ r k, k0_pay1 x s (ix2 r k) = k0_pay1 x s (ix2 r k) := fun _ _ => rfl
  generalize k0_pay1 x s = p at *
  pointwise []

/-- The reference's codes from the activations and the scales. -/
def CODES (X : FVec Ideal S6144x8192 .bf16) (S : FVec Ideal S6144x1 .f32) : FVec Ideal S6144x8192 .fp8e4m3 := fun i =>
  min (Ideal.ofBits .f32 0x43E00000#32) (max (Ideal.ofBits .f32 0xC3E00000#32) (X (ix2 (i 0) (i 1)) * Ideal.div 1 (S (ix2 (i 0) 0))))

/-- The reference's output from the codes, the scales and the adapters' part. -/
def OUT (C : FVec Ideal S6144x8192 .fp8e4m3) (S : FVec Ideal S6144x1 .f32) (W : FVec Ideal S8192x10240 .fp8e4m3) (WS : FVec Ideal S1x10240 .f32)
    (L : FVec Ideal S6144x10240 .f32) : FVec Ideal S6144x10240 .bf16 := fun i =>
  (∑ k, C (ix2 (i 0) k) * W (ix2 k (i 1))) * S (ix2 (i 0) 0) * WS (ix2 0 (i 1)) + L (ix2 (i 0) (i 1))

/-- The codes at coordinates. -/
theorem CODES_apply (X : FVec Ideal S6144x8192 .bf16) (S : FVec Ideal S6144x1 .f32) (r : Fin 6144) (k : Fin 8192) :
    CODES X S (ix2 r k) = min (Ideal.ofBits .f32 0x43E00000#32) (max (Ideal.ofBits .f32 0xC3E00000#32) (X (ix2 r k) * Ideal.div 1 (S (ix2 r 0)))) := rfl

/-- The output at coordinates. -/
theorem OUT_apply (C : FVec Ideal S6144x8192 .fp8e4m3) (S : FVec Ideal S6144x1 .f32) (W : FVec Ideal S8192x10240 .fp8e4m3)
    (WS : FVec Ideal S1x10240 .f32) (L : FVec Ideal S6144x10240 .f32) (r : Fin 6144) (n : Fin 10240) :
    OUT C S W WS L (ix2 r n) = (∑ k, C (ix2 r k) * W (ix2 k n)) * S (ix2 r 0) * WS (ix2 0 n) + L (ix2 r n) := rfl

/-- The payload of codes is the array of codes. -/
theorem pay1_eq (x : Vec Ideal S6144x8192 .bf16) (s : Vec Ideal S6144x1 .f32) : k0_pay1 x s = CODES x s := by
  funext i
  idx_vars i
  rw [pay1, CODES_apply]

/-- The payload of outputs is the array of outputs. -/
theorem pay2_eq (x : Vec Ideal S6144x8192 .bf16) (s : Vec Ideal S6144x1 .f32) (w : Vec Ideal S8192x10240 .fp8e4m3) (ws : Vec Ideal S1x10240 .f32)
    (l : Vec Ideal S6144x10240 .f32) : k0_pay2 x s w s ws l = OUT (CODES x s) s w ws l := by
  funext i
  idx_vars i
  rw [pay2, OUT_apply, pay1_eq]

/-- The activations' block is its array. -/
theorem b0 (c : Dev nD) (t : Fin cfg0.N) : (show FVec Ideal S6144x8192 .bf16 from iblk m c 0 t) = V m c main_v60 := by
  funext i
  blk_ext [iblk, idx t]

/-- The weights' block is its array. -/
theorem b1 (c : Dev nD) (t : Fin cfg0.N) : (show FVec Ideal S8192x10240 .fp8e4m3 from iblk m c 1 t) = V m c main_arg1 := by
  funext i
  blk_ext [iblk, idx t]

/-- The scales' block read through its window, at a row, for any contents of the arrays. -/
theorem blk2 (c : Dev nD) (U : (b : Ref sig .tc) → Buf (Elt Ideal) ((c : Thread nD τ).loc b)) (t : Fin cfg0.N) (r : Fin 6144) :
    (show FVec Ideal S6144x1 .f32 from ((cfg0.win 2).blk t).view.read (Elt Ideal) (U (Pipeline.arrRef spec0 2))) (ix2 r 0)
      = (show FVec Ideal S6144x1 .f32 from U main_v59) (ix2 r 0) := by
  blk_ext [idx t]

/-- The scales' block is its array. -/
theorem b2 (c : Dev nD) (t : Fin cfg0.N) : (show FVec Ideal S6144x1 .f32 from iblk m c 2 t) = V m c main_v59 := by
  funext i
  idx_vars i
  obtain rfl : i1 = 0 := Subsingleton.elim _ _
  exact blk2 c (V m c) t i0

/-- The columns' scales' block is its array. -/
theorem b3 (c : Dev nD) (t : Fin cfg0.N) : (show FVec Ideal S1x10240 .f32 from iblk m c 3 t) = V m c main_v61 := by
  funext i
  blk_ext [iblk, idx t]

/-- The adapters' part's block is its array. -/
theorem b4 (c : Dev nD) (t : Fin cfg0.N) : (show FVec Ideal S6144x10240 .f32 from iblk m c 4 t) = V m c main_v62 := by
  funext i
  blk_ext [iblk, idx t]

/-- The block of codes is the array of codes of its inputs. -/
theorem out5 (x0 : Vec Ideal S6144x8192 .bf16) (x1 : Vec Ideal S8192x10240 .fp8e4m3) (x2 : Vec Ideal S6144x1 .f32) (x3 : Vec Ideal S1x10240 .f32)
    (x4 : Vec Ideal S6144x10240 .f32) (i : S6144x8192.Idx) : out0_5 x0 x1 x2 x3 x4 i = CODES x0 x2 i := by
  unfold out0_5
  frame_out
  rw [pay1_eq]

/-- The block of outputs is the array of outputs of its inputs. -/
theorem out6 (x0 : Vec Ideal S6144x8192 .bf16) (x1 : Vec Ideal S8192x10240 .fp8e4m3) (x2 : Vec Ideal S6144x1 .f32) (x3 : Vec Ideal S1x10240 .f32)
    (x4 : Vec Ideal S6144x10240 .f32) (i : S6144x10240.Idx) : out0_6 x0 x1 x2 x3 x4 i = OUT (CODES x0 x2) x2 x1 x3 x4 i := by
  unfold out0_6
  frame_out
  rw [pay2_eq]

/-- The reference's region leaves the codes. -/
theorem arr5 (c : Dev nD) : (dats m 0 c).arrAt 5 cfg0.N = CODES (V m c main_v60) (V m c main_v59) := by
  refine (dats m 0 c).arrAt_eq_of_covers 5 _ (by decide +kernel) fun t _ y => ?_
  have he : ((cfg0.win 5).blk t).view.emb y = (ix2 (y 0) (y 1) : S6144x8192.Idx) := by blk_ext [idx t]
  rw [he]
  blk_simp
  rw [after0_5]
  idx_vars y
  exact (out5 _ _ _ _ _ _).trans (congrFun (congr (congrArg CODES (b0 m c t)) (b2 m c t)) _)

/-- The reference's region leaves the output. -/
theorem arr6 (c : Dev nD) : (dats m 0 c).arrAt 6 cfg0.N
    = OUT (CODES (V m c main_v60) (V m c main_v59)) (V m c main_v59) (V m c main_arg1) (V m c main_v61) (V m c main_v62) := by
  refine (dats m 0 c).arrAt_eq_of_covers 6 _ (by decide +kernel) fun t _ y => ?_
  have he : ((cfg0.win 6).blk t).view.emb y = (ix2 (y 0) (y 1) : S6144x10240.Idx) := by blk_ext [idx t]
  rw [he]
  blk_simp
  rw [after0_6]
  idx_vars y
  exact (out6 _ _ _ _ _ _).trans (congrFun (congr (congr (congr (congr (congrArg OUT
    (congr (congrArg CODES (b0 m c t)) (b2 m c t))) (b2 m c t)) (b1 m c t)) (b3 m c t)) (b4 m c t)) _)

end Cert.RArr

end
-- ==== Proof.KPay.lean ====
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KPay

open Idealize.ShloMosaic Idealize.ShloMosaic.TcCoe Idealize.SL.Sem
open Cert.KernelIdeal Cert.KernelIdeal.Gen

/-- The pattern of minus infinity in bf16 is the least value. -/
theorem bf16_bot : Ideal.ofBits .bf16 65408#16 = ⊥ := by
  unfold Ideal.ofBits Ideal.ieee
  have e1 : ((65408#16).extractLsb' 7 8).toNat = 255 := by decide
  have e2 : ((65408#16).extractLsb' 0 7).toNat = 0 := by decide
  have e3 : ((65408#16).extractLsb' 15 1 == 1#1) = true := by decide
  simp only [e1, e2, Nat.reduceAdd, e3]
  norm_num

/-- The pattern of minus infinity in f32 is the least value. -/
theorem f32_bot : Ideal.ofBits .f32 4286578688#32 = ⊥ := by
  unfold Ideal.ofBits Ideal.ieee
  have e1 : ((4286578688#32).extractLsb' 23 8).toNat = 255 := by decide
  have e2 : ((4286578688#32).extractLsb' 0 23).toNat = 0 := by decide
  have e3 : ((4286578688#32).extractLsb' 31 1 == 1#1) = true := by decide
  simp only [e1, e2, Nat.reduceAdd, e3]
  norm_num

/-- The column of greatest absolute values, at a row. -/
theorem pay3 (x : Vec Ideal S256x8192 .bf16) (r : Fin 256) :
    k0_pay3 x (ix2 r 0) = Spec.amax fun k => x (ix2 r k) := by
  pointwise [k0_pay3, k0_pay2]
  rw [bf16_bot]
  unfold Spec.amax
  rfl

/-- A column of products by the constant, at an index. -/
theorem mul_const (z : FVec Ideal S256x1 .f32) (c : BitVec 32) (i : S256x1.Idx) :
    mulf z (broadcast S256x1 (FloatOps.ofBits (F := Ideal) .f32 c)) i = z i * Ideal.ofBits .f32 c := rfl

/-- The column of quotients, at a row. -/
theorem pay4 (x : Vec Ideal S256x8192 .bf16) (r : Fin 256) :
    k0_pay4 x (ix2 r 0) = Spec.quot fun k => x (ix2 r k) := by
  unfold k0_pay4 Spec.quot
  rw [← pay3]
  exact mul_const _ _ _

/-- A step of the search on a column of words. -/
def vstep (q : FVec Ideal S256x1 .f32) (e : IVec S256x1 32) (b : BitVec 32) : IVec S256x1 32 :=
  select (cmpf .oge q (bitcastToFloat .f32 (shli (addi e (broadcast S256x1 b)) (broadcast S256x1 23#32))))
    (addi e (broadcast S256x1 b)) e

/-- A step at an index is the step on the words there. -/
theorem vstep_apply (q : FVec Ideal S256x1 .f32) (e : IVec S256x1 32) (b : BitVec 32) (i : S256x1.Idx) :
    vstep q e b i = Scale.step (q i) (e i) b := rfl

/-- The last five steps of the search. -/
theorem pay7_v (q : FVec Ideal S256x1 .f32) (e : IVec S256x1 32) (b : IVec S256x1 1)
   (hb : b = cmpf .oge q (bitcastToFloat .f32 (shli (addi e (broadcast S256x1 16#32)) (broadcast S256x1 23#32)))) :
    k0_pay7 q e b 16#32
      = vstep q (vstep q (vstep q (vstep q (vstep q e 16#32) 8#32) 4#32) 2#32) 1#32 := by
  subst hb
  rfl

/-- The first three steps of the search. -/
theorem pay5_v (x : Vec Ideal S256x8192 .bf16) (q : FVec Ideal S256x1 .f32) (hq : k0_pay4 x = q) :
    k0_pay5 x = (vstep q (vstep q (vstep q (broadcast S256x1 0#32) 128#32) 64#32) 32#32) := by
  unfold k0_pay5
  rw [hq]
  rfl

/-- The comparison of the fourth step. -/
theorem pay6_v (x : Vec Ideal S256x8192 .bf16) (q : FVec Ideal S256x1 .f32) (hq : k0_pay4 x = q) (e : IVec S256x1 32) (he : k0_pay5 x = e) :
    k0_pay6 x = cmpf .oge q (bitcastToFloat .f32 (shli (addi e (broadcast S256x1 16#32)) (broadcast S256x1 23#32))) := by
  unfold k0_pay6
  rw [hq, he]

/-- The eight steps, at an index. -/
theorem search_v (q : FVec Ideal S256x1 .f32) (i : S256x1.Idx) :
    vstep q (vstep q (vstep q (vstep q (vstep q (vstep q (vstep q (vstep q (broadcast S256x1 0#32) 128#32) 64#32) 32#32) 16#32) 8#32)
      4#32) 2#32) 1#32 i = Scale.search (q i) := by
  unfold Scale.search
  simp only [vstep_apply, broadcast]

/-- The exponent field of a row's quotient. -/
theorem pay7 (x : Vec Ideal S256x8192 .bf16) (r : Fin 256) :
    k0_pay7 (k0_pay4 x) (k0_pay5 x) (k0_pay6 x) 16#32 (ix2 r 0) = Scale.search (Spec.quot fun k => x (ix2 r k)) := by
  rw [← pay4, pay7_v (k0_pay4 x) (k0_pay5 x) (k0_pay6 x) (pay6_v x _ rfl _ rfl), pay5_v x _ rfl, search_v]

/-- Whether the exponent field is an end of its range. -/
theorem pay8_eq (q : FVec Ideal S256x1 .f32) (e : IVec S256x1 32) (b : IVec S256x1 1) (c : BitVec 32) (i : S256x1.Idx) :
    k0_pay8 q e b c i = IntOp.ori (IntOp.cmpi .eq (k0_pay7 q e b c i) 0#32) (IntOp.cmpi .eq (k0_pay7 q e b c i) 255#32) := by
  unfold k0_pay8
  generalize k0_pay7 q e b c = a
  rfl

/-- The exponent from the exponent field, at an index. -/
theorem pay10_v (z : FVec Ideal S256x1 .f32) (a : IVec S256x1 32) (b : IVec S256x1 1) (i : S256x1.Idx) :
    k0_pay10 z a b k0_pay9 i = if z i = 0 then 0#32 else Scalar.select (b i) 0#32 (IntOp.subi (a i) 126#32) := by
  pointwise [k0_pay10, k0_pay9]

/-- The exponent of a row. -/
theorem pay10 (x : Vec Ideal S256x8192 .bf16) (r : Fin 256) :
    k0_pay10 (k0_pay3 x) (k0_pay7 (k0_pay4 x) (k0_pay5 x) (k0_pay6 x) 16#32) (k0_pay8 (k0_pay4 x) (k0_pay5 x) (k0_pay6 x) 16#32) k0_pay9 (ix2 r 0)
      = Scale.kexp (Spec.amax fun k => x (ix2 r k)) (Spec.quot fun k => x (ix2 r k)) := by
  rw [pay10_v, pay8_eq, pay7, pay3]
  unfold Scale.kexp
  with_reducible rfl

/-- The scale from the exponent, at an index. -/
theorem pay11_v (z : FVec Ideal S256x1 .f32) (a : IVec S256x1 32) (b : IVec S256x1 1) (d : IVec S256x1 32) (i : S256x1.Idx) :
    k0_pay11 z a b d i = Ideal.ofBits .f32 (IntOp.shli .vector (IntOp.addi 127#32 (k0_pay10 z a b d i)) 23#32) := by
  unfold k0_pay11
  generalize k0_pay10 z a b d = y
  rfl

/-- A code from the exponent of its row. -/
theorem pay12_v (x : FVec Ideal S256x8192 .bf16) (z : FVec Ideal S256x1 .f32) (a : IVec S256x1 32) (b : IVec S256x1 1) (d : IVec S256x1 32)
    (r : Fin 256) (k : Fin 8192) :
    k0_pay12 x z a b d (ix2 r k) = min (Ideal.ofBits .f32 0x43E00000#32) (max (Ideal.ofBits .f32 0xC3E00000#32) (x (ix2 r k) *
      Ideal.ofBits .f32 (IntOp.shli .vector (IntOp.subi 127#32 (k0_pay10 z a b d (ix2 r 0))) 23#32))) := by
  unfold k0_pay12
  generalize k0_pay10 z a b d = y
  pointwise []

/-- A choice by an equality of words. -/
theorem select_eq {w : Nat} {α : Type} (a b : BitVec w) (x y : α) :
    Scalar.select (IntOp.cmpi .eq a b) x y = if a = b then x else y := by
  unfold Scalar.select IntOp.cmpi
  by_cases h : a = b
  · simp [h]
  · have hb : (a == b) = false := by simpa using h
    simp [h, hb]

/-- The first gate of a row. -/
theorem pay21_v (l : FVec Ideal S256x16 .f32) (i : Vec Ideal S256x2 .i32) (r : Fin 256) (p : Fin 16 → EReal)
    (hp : ∀ e, Ideal.div (Ideal.exp (l (ix2 r e))) (∑ x, Ideal.exp (l (ix2 r x))) = p e) :
    k0_pay21 l i (ix2 r 0) = Spec.gate p (fun j => i (ix2 r j)) 0 := by
  pointwise [k0_pay21, k0_pay20, k0_pay19, k0_pay18, k0_pay17, k0_pay16, k0_pay15, k0_pay14]
  simp only [select_eq, hp]
  rfl

/-- The second gate of a row. -/
theorem pay22_v (l : FVec Ideal S256x16 .f32) (i : Vec Ideal S256x2 .i32) (r : Fin 256) (p : Fin 16 → EReal)
    (hp : ∀ e, Ideal.div (Ideal.exp (l (ix2 r e))) (∑ x, Ideal.exp (l (ix2 r x))) = p e) :
    k0_pay22 l i (ix2 r 0) = Spec.gate p (fun j => i (ix2 r j)) 1 := by
  pointwise [k0_pay22, k0_pay20, k0_pay19, k0_pay18, k0_pay17, k0_pay16, k0_pay15, k0_pay14]
  simp only [select_eq, hp]
  rfl

/-- The gates of a row, side by side. -/
theorem pay23_v (l : FVec Ideal S256x16 .f32) (i : Vec Ideal S256x2 .i32) (r : Fin 256) (p : Fin 16 → EReal)
    (hp : ∀ e, Ideal.div (Ideal.exp (l (ix2 r e))) (∑ x, Ideal.exp (l (ix2 r x))) = p e) (j : Fin 2) :
    k0_pay23 l i (ix2 r j) = Spec.gate p (fun j => i (ix2 r j)) j := by
  have h1 := pay21_v l i r p hp
  have h2 := pay22_v l i r p hp
  unfold k0_pay23
  generalize k0_pay21 l i = g0 at *
  generalize k0_pay22 l i = g1 at *
  pointwise []
  fin_cases j
  · exact h1
  · exact h2

/-- A logit less the greatest of its row. -/
theorem pay13_v (x : FVec Ideal S256x8192 .bf16) (w : Vec Ideal S8192x16 .bf16) (b : Vec Ideal S1x16 .f32) (r : Fin 256)
    (l : Fin 16 → EReal) (hl : ∀ e, ∑ k, x (ix2 r k) * w (ix2 k e) + b (ix2 0 e) = l e) (e : Fin 16) :
    k0_pay13 x w b (ix2 r e) = l e - Finset.univ.fold max ⊥ l := by
  pointwise [k0_pay13]
  simp only [hl, f32_bot]

/-- The column's expert by the kernel's word arithmetic. -/
def colw (c : Fin 384) : BitVec 32 :=
  let q := IntOp.divsi .vector (BitVec.ofNat 32 c.val) 48#32
  let f := Scalar.select
    (IntOp.andi
      (IntOp.cmpi .ne
        (IntOp.subi (BitVec.setWidth 32 (IntOp.cmpi .sgt (BitVec.ofNat 32 c.val) 0#32))
          (BitVec.setWidth 32 (IntOp.cmpi .slt (BitVec.ofNat 32 c.val) 0#32)))
        (Scalar.subi (Scalar.extui (Scalar.cmpi .sgt 48#32 0#32)) (Scalar.extui (Scalar.cmpi .slt 48#32 0#32))))
      (IntOp.cmpi .ne (IntOp.remsi .vector (BitVec.ofNat 32 c.val) 48#32) 0#32))
    (IntOp.subi q 1#32) q
  IntOp.addi (IntOp.muli 2#32 f)
    (Scalar.select (IntOp.cmpi .sge (IntOp.subi (BitVec.ofNat 32 c.val) (IntOp.muli f 48#32)) 32#32) 1#32 0#32)

/-- That is the reference's table of the columns' experts. -/
theorem colw_eq : ∀ c : Fin 384, colw c = Cert.ReferenceIdeal.lit1 c := by
  decide +kernel

/-- A gated hidden feature from the products. -/
theorem pay1_v (i0 i1 : IVec S256x1 32) (g0 g1 : FVec Ideal S256x1 .f32) (h : FVec Ideal S256x384 .f32) (r : Fin 256) (c : Fin 384) :
    k0_pay1 i0 i1 g0 g1 h (iota .tc S256x384 32 [1] iota_S256x384_d1_w32) 48#32 k0_pay25 k0_pay26 (Scalar.extui (Scalar.cmpi .sgt 48#32 0#32)) (Scalar.cmpi .slt 48#32 0#32) (ix2 r c)
      = h (ix2 r c) * (((if Cert.ReferenceIdeal.lit1 c = i0 (ix2 r 0) then g0 (ix2 r 0) else 0)
          + (if Cert.ReferenceIdeal.lit1 c = i1 (ix2 r 0) then g1 (ix2 r 0) else 0)) * Ideal.ofBits .f32 0x40000000#32) := by
  have hc := colw_eq c
  unfold colw at hc
  dsimp only at hc
  pointwise [k0_pay1, k0_pay25, k0_pay26]
  rw [hc]
  simp only [select_eq]

/-- The first expert of a row. -/
theorem pay16_v (i : Vec Ideal S256x2 .i32) (r : Fin 256) : k0_pay16 (F := Ideal) i (ix2 r 0) = i (ix2 r 0) := by
  pointwise [k0_pay16, k0_pay15]

/-- The second expert of a row. -/
theorem pay17_v (i : Vec Ideal S256x2 .i32) (r : Fin 256) : k0_pay17 (F := Ideal) i (ix2 r 0) = i (ix2 r 1) := by
  pointwise [k0_pay17, k0_pay15]

/-- The products with the adapters' first factors. -/
theorem pay24_v (x : FVec Ideal S256x8192 .bf16) (w : Vec Ideal S8192x384 .bf16) (r : Fin 256) (e : Fin 384) :
    k0_pay24 x w (ix2 r e) = ∑ k, x (ix2 r k) * w (ix2 k e) := by
  pointwise [k0_pay24]

/-- An element of a tile of the output. -/
theorem k1pay1_v (a : Vec Ideal S1024x8192 .fp8e4m3) (w : Vec Ideal S8192x1024 .fp8e4m3) (h : Vec Ideal S1024x384 .bf16) (lb : Vec Ideal S384x1024 .bf16)
    (xs : Vec Ideal S1024x1 .f32) (ws : Vec Ideal S1x1024 .f32) (r n : Fin 1024) :
    k1_pay1 a w h lb xs ws (ix2 r n)
      = (∑ k, a (ix2 r k) * w (ix2 k n)) * xs (ix2 r 0) * ws (ix2 0 n) + ∑ c, h (ix2 r c) * lb (ix2 c n) := by
  pointwise [k1_pay1]

/-- The activations are read as they are. -/
theorem pay2_v (x : Vec Ideal S256x8192 .bf16) (r : Fin 256) (k : Fin 8192) : k0_pay2 x (ix2 r k) = x (ix2 r k) := by
  pointwise [k0_pay2]

/-- The scales a block leaves. -/
theorem out6 (x0 : Vec Ideal S256x8192 .bf16) (x1 : Vec Ideal S8192x16 .bf16) (x2 : Vec Ideal S1x16 .f32) (x3 : Vec Ideal S256x2 .i32)
    (x4 : Vec Ideal S8192x384 .bf16) (r : Fin 256) :
    out0_6 x0 x1 x2 x3 x4 (ix2 r 0) = Scale.kscale (Spec.amax fun k => x0 (ix2 r k)) (Spec.quot fun k => x0 (ix2 r k)) := by
  have h := pay10 x0 r
  unfold_out out0_6
  frame_out
  rw [pay11_v, h]
  rfl

/-- The codes a block leaves. -/
theorem out5 (x0 : Vec Ideal S256x8192 .bf16) (x1 : Vec Ideal S8192x16 .bf16) (x2 : Vec Ideal S1x16 .f32) (x3 : Vec Ideal S256x2 .i32)
    (x4 : Vec Ideal S8192x384 .bf16) (r : Fin 256) (k : Fin 8192) :
    out0_5 x0 x1 x2 x3 x4 (ix2 r k) = min (Ideal.ofBits .f32 0x43E00000#32) (max (Ideal.ofBits .f32 0xC3E00000#32) (x0 (ix2 r k) *
      Scale.kinv (Spec.amax fun k => x0 (ix2 r k)) (Spec.quot fun k => x0 (ix2 r k)))) := by
  have h := pay10 x0 r
  unfold_out out0_5
  frame_out
  rw [pay12_v, h, pay2_v]
  rfl

/-- The gates a block leaves. -/
theorem out7 (x0 : Vec Ideal S256x8192 .bf16) (x1 : Vec Ideal S8192x16 .bf16) (x2 : Vec Ideal S1x16 .f32) (x3 : Vec Ideal S256x2 .i32)
    (x4 : Vec Ideal S8192x384 .bf16) (r : Fin 256) (j : Fin 2) :
    out0_7 x0 x1 x2 x3 x4 (ix2 r j) = Spec.gates (fun k => x0 (ix2 r k)) (fun k e => x1 (ix2 k e)) (fun e => x2 (ix2 0 e)) (fun j => x3 (ix2 r j)) j := by
  unfold_out out0_7
  frame_out
  have h := pay13_v (k0_pay2 x0) x1 x2 r (Spec.logit (fun k => x0 (ix2 r k)) (fun k e => x1 (ix2 k e)) fun e => x2 (ix2 0 e)) (fun e => by simp only [pay2_v]; rfl)
  rw [pay23_v _ _ r (Spec.prob (Spec.logit (fun k => x0 (ix2 r k)) (fun k e => x1 (ix2 k e)) fun e => x2 (ix2 0 e))) (fun e => by simp only [h]; rfl)]
  rfl

/-- The gated hidden features a block leaves. -/
theorem out8 (x0 : Vec Ideal S256x8192 .bf16) (x1 : Vec Ideal S8192x16 .bf16) (x2 : Vec Ideal S1x16 .f32) (x3 : Vec Ideal S256x2 .i32)
    (x4 : Vec Ideal S8192x384 .bf16) (r : Fin 256) (c : Fin 384) :
    out0_8 x0 x1 x2 x3 x4 (ix2 r c) = Spec.hidden (fun k => x0 (ix2 r k)) (fun k c => x4 (ix2 k c))
      (Spec.gates (fun k => x0 (ix2 r k)) (fun k e => x1 (ix2 k e)) (fun e => x2 (ix2 0 e)) (fun j => x3 (ix2 r j)))
      (fun j => x3 (ix2 r j)) c := by
  unfold_out out0_8
  frame_out
  have h := pay13_v (k0_pay2 x0) x1 x2 r (Spec.logit (fun k => x0 (ix2 r k)) (fun k e => x1 (ix2 k e)) fun e => x2 (ix2 0 e)) (fun e => by simp only [pay2_v]; rfl)
  have hp : ∀ e, Ideal.div (Ideal.exp (k0_pay13 (k0_pay2 x0) x1 x2 (ix2 r e))) (∑ x, Ideal.exp (k0_pay13 (k0_pay2 x0) x1 x2 (ix2 r x))) =
    Spec.prob (Spec.logit (fun k => x0 (ix2 r k)) (fun k e => x1 (ix2 k e)) fun e => x2 (ix2 0 e)) e := fun e => by simp only [h]; rfl
  rw [pay1_v, pay16_v, pay17_v, pay24_v, pay21_v _ _ r _ hp, pay22_v _ _ r _ hp]
  simp only [pay2_v]
  rfl

/-- The tile of the output a point leaves. -/
theorem outm (a : Vec Ideal S1024x8192 .fp8e4m3) (w : Vec Ideal S8192x1024 .fp8e4m3) (xs : Vec Ideal S1024x1 .f32) (ws : Vec Ideal S1x1024 .f32)
    (h : Vec Ideal S1024x384 .bf16) (lb : Vec Ideal S384x1024 .bf16) (r n : Fin 1024) :
    out1_6 a w xs ws h lb (ix2 r n) = Spec.out (fun k => a (ix2 r k)) (fun k => w (ix2 k n)) (xs (ix2 r 0)) (ws (ix2 0 n))
      (fun c => h (ix2 r c)) (fun c => lb (ix2 c n)) := by
  unfold out1_6
  frame_out
  exact k1pay1_v _ _ _ _ _ _ r n

end Cert.KPay

end
-- ==== Proof.KArr.lean ====
module

public import proofs.«01_k».proof.Proof.KPay

@[expose] public section

set_option maxRecDepth 16384

noncomputable section

namespace Cert.KArr

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- Where the first pipeline's blocks lie. -/
theorem idx0 : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] ∧ t.val < 24 :=
  (by decide +kernel : ∀ t : Fin grid0.N, _)

/-- Where the second pipeline's blocks lie. -/
theorem idx1 : ∀ t : Fin cfg1.N, win1_0.index t = ![t.val / 10, 0] ∧ win1_1.index t = ![0, t.val % 10] ∧ win1_2.index t = ![t.val / 10, 0]
    ∧ win1_3.index t = ![0, t.val % 10] ∧ win1_4.index t = ![t.val / 10, 0] ∧ win1_5.index t = ![0, t.val % 10] ∧ win1_6.index t = ![t.val / 10, t.val % 10]
    ∧ t.val < 60 :=
  (by decide +kernel : ∀ t : Fin grid1.N, _)

/-- The array of codes, by the kernel's reciprocal. -/
def CODES (X : FVec Ideal S6144x8192 .bf16) : FVec Ideal S6144x8192 .fp8e4m3 := fun i =>
  Spec.kcode (fun k => X (ix2 (i 0) k)) (i 1)

/-- The array of scales, by the kernel's exponents. -/
def SCALES (X : FVec Ideal S6144x8192 .bf16) : FVec Ideal S6144x1 .f32 := fun i => Spec.kscale fun k => X (ix2 (i 0) k)

/-- The array of gates. -/
def GATES (X : FVec Ideal S6144x8192 .bf16) (W : FVec Ideal S8192x16 .bf16) (B : FVec Ideal S1x16 .f32) (I : IVec S6144x2 32) :
    FVec Ideal S6144x2 .f32 := fun i =>
  Spec.gates (fun k => X (ix2 (i 0) k)) (fun k e => W (ix2 k e)) (fun e => B (ix2 0 e)) (fun j => I (ix2 (i 0) j)) (i 1)

/-- The array of gated hidden features. -/
def HIDDEN (X : FVec Ideal S6144x8192 .bf16) (W : FVec Ideal S8192x16 .bf16) (B : FVec Ideal S1x16 .f32) (I : IVec S6144x2 32)
    (A : FVec Ideal S8192x384 .bf16) : FVec Ideal S6144x384 .bf16 := fun i =>
  Spec.hidden (fun k => X (ix2 (i 0) k)) (fun k c => A (ix2 k c))
    (Spec.gates (fun k => X (ix2 (i 0) k)) (fun k e => W (ix2 k e)) (fun e => B (ix2 0 e)) fun j => I (ix2 (i 0) j))
    (fun j => I (ix2 (i 0) j)) (i 1)

/-- The array of outputs. -/
def OUT (C : FVec Ideal S6144x8192 .fp8e4m3) (W : FVec Ideal S8192x10240 .fp8e4m3) (XS : FVec Ideal S6144x1 .f32) (WS : FVec Ideal S1x10240 .f32)
    (H : FVec Ideal S6144x384 .bf16) (LB : FVec Ideal S384x10240 .bf16) : FVec Ideal S6144x10240 .bf16 := fun i =>
  Spec.out (fun k => C (ix2 (i 0) k)) (fun k => W (ix2 k (i 1))) (XS (ix2 (i 0) 0)) (WS (ix2 0 (i 1))) (fun c => H (ix2 (i 0) c))
    (fun c => LB (ix2 c (i 1)))

/-- The gates at coordinates. -/
theorem GATES_apply (X : FVec Ideal S6144x8192 .bf16) (W : FVec Ideal S8192x16 .bf16) (B : FVec Ideal S1x16 .f32) (I : IVec S6144x2 32)
    (r : Fin 6144) (j : Fin 2) : GATES X W B I (ix2 r j)
      = Spec.gates (fun k => X (ix2 r k)) (fun k e => W (ix2 k e)) (fun e => B (ix2 0 e)) (fun j => I (ix2 r j)) j := rfl

/-- The hidden features at coordinates. -/
theorem HIDDEN_apply (X : FVec Ideal S6144x8192 .bf16) (W : FVec Ideal S8192x16 .bf16) (B : FVec Ideal S1x16 .f32) (I : IVec S6144x2 32)
    (A : FVec Ideal S8192x384 .bf16) (r : Fin 6144) (c : Fin 384) : HIDDEN X W B I A (ix2 r c)
      = Spec.hidden (fun k => X (ix2 r k)) (fun k c => A (ix2 k c))
        (Spec.gates (fun k => X (ix2 r k)) (fun k e => W (ix2 k e)) (fun e => B (ix2 0 e)) fun j => I (ix2 r j)) (fun j => I (ix2 r j)) c := rfl

/-- The output at coordinates. -/
theorem OUT_apply (C : FVec Ideal S6144x8192 .fp8e4m3) (W : FVec Ideal S8192x10240 .fp8e4m3) (XS : FVec Ideal S6144x1 .f32)
    (WS : FVec Ideal S1x10240 .f32) (H : FVec Ideal S6144x384 .bf16) (LB : FVec Ideal S384x10240 .bf16) (r : Fin 6144) (n : Fin 10240) :
    OUT C W XS WS H LB (ix2 r n) = Spec.out (fun k => C (ix2 r k)) (fun k => W (ix2 k n)) (XS (ix2 r 0)) (WS (ix2 0 n))
      (fun c => H (ix2 r c)) (fun c => LB (ix2 c n)) := rfl

/-- The array row of a row of a block of the first pipeline. -/
def row0 (t : Fin cfg0.N) (r : Fin 256) : Fin 6144 := ⟨t.val * 256 + r.val, by have := (idx0 t).2.2.2.2.2.2.2.2.2; omega⟩

/-- The activations' block, at a row. -/
theorem x0 (c : Dev nD) (t : Fin cfg0.N) (r : Fin 256) (k : Fin 8192) :
    (show FVec Ideal S256x8192 .bf16 from iblk0 V c 0 t) (ix2 r k) = (show FVec Ideal S6144x8192 .bf16 from V c main_v0) (ix2 (row0 t r) k) := by
  blk_ext [iblk0, idx0 t, row0]

/-- The router's block is its array. -/
theorem x1 (c : Dev nD) (t : Fin cfg0.N) (k : Fin 8192) (e : Fin 16) :
    (show FVec Ideal S8192x16 .bf16 from iblk0 V c 1 t) (ix2 k e) = (show FVec Ideal S8192x16 .bf16 from V c main_arg3) (ix2 k e) := by
  blk_ext [iblk0, idx0 t]

/-- The bias's block is its array. -/
theorem x2 (c : Dev nD) (t : Fin cfg0.N) (e : Fin 16) :
    (show FVec Ideal S1x16 .f32 from iblk0 V c 2 t) (ix2 0 e) = (show FVec Ideal S1x16 .f32 from V c main_v2) (ix2 0 e) := by
  blk_ext [iblk0, idx0 t]

/-- The experts' block, at a row. -/
theorem x3 (c : Dev nD) (t : Fin cfg0.N) (r : Fin 256) (j : Fin 2) :
    (show IVec S256x2 32 from iblk0 V c 3 t) (ix2 r j) = (show IVec S6144x2 32 from V c main_v1) (ix2 (row0 t r) j) := by
  blk_ext [iblk0, idx0 t, row0]

/-- The adapters' block is its array. -/
theorem x4 (c : Dev nD) (t : Fin cfg0.N) (k : Fin 8192) (e : Fin 384) :
    (show FVec Ideal S8192x384 .bf16 from iblk0 V c 4 t) (ix2 k e) = (show FVec Ideal S8192x384 .bf16 from V c main_arg6) (ix2 k e) := by
  blk_ext [iblk0, idx0 t]

/-- The first pipeline leaves the codes. -/
theorem arr5 (c : Dev nD) : (dat0 V c).arrAt 5 cfg0.N = CODES (V c main_v0) := by
  refine (dat0 V c).arrAt_eq_of_covers 5 _ (by decide +kernel) fun t _ y => ?_
  have he : ((cfg0.win 5).blk t).view.emb y = (ix2 (row0 t (y 0)) (y 1) : S6144x8192.Idx) := by blk_ext [idx0 t, row0]
  rw [he]
  blk_simp
  rw [after0_5]
  idx_vars y
  have hx := funext (x0 V c t y0)
  exact (KPay.out5 _ _ _ _ _ _ _).trans (congrArg (fun x => Spec.kcode x y1) hx)

/-- The first pipeline leaves the scales. -/
theorem arr6 (c : Dev nD) : (dat0 V c).arrAt 6 cfg0.N = SCALES (V c main_v0) := by
  refine (dat0 V c).arrAt_eq_of_covers 6 _ (by decide +kernel) fun t _ y => ?_
  have he : ((cfg0.win 6).blk t).view.emb y = (ix2 (row0 t (y 0)) (y 1) : S6144x1.Idx) := by blk_ext [idx0 t, row0]
  rw [he]
  blk_simp
  rw [after0_6]
  idx_vars y
  have hx := funext (x0 V c t y0)
  obtain rfl : y1 = 0 := Subsingleton.elim _ _
  exact (KPay.out6 _ _ _ _ _ _).trans (congrArg Spec.kscale hx)

/-- The first pipeline leaves the gates. -/
theorem arr7 (c : Dev nD) : (dat0 V c).arrAt 7 cfg0.N = GATES (V c main_v0) (V c main_arg3) (V c main_v2) (V c main_v1) := by
  refine (dat0 V c).arrAt_eq_of_covers 7 _ (by decide +kernel) fun t _ y => ?_
  have he : ((cfg0.win 7).blk t).view.emb y = (ix2 (row0 t (y 0)) (y 1) : S6144x2.Idx) := by blk_ext [idx0 t, row0]
  rw [he]
  blk_simp
  rw [after0_7]
  idx_vars y
  refine (KPay.out7 _ _ _ _ _ _ _).trans (Eq.trans ?_ (GATES_apply _ _ _ _ _ _).symm)
  exact congrFun (Spec.gates_congr (x0 V c t y0) (x1 V c t) (x2 V c t) (x3 V c t y0)) y1

/-- The first pipeline leaves the gated hidden features. -/
theorem arr8 (c : Dev nD) : (dat0 V c).arrAt 8 cfg0.N = HIDDEN (V c main_v0) (V c main_arg3) (V c main_v2) (V c main_v1) (V c main_arg6) := by
  refine (dat0 V c).arrAt_eq_of_covers 8 _ (by decide +kernel) fun t _ y => ?_
  have he : ((cfg0.win 8).blk t).view.emb y = (ix2 (row0 t (y 0)) (y 1) : S6144x384.Idx) := by blk_ext [idx0 t, row0]
  rw [he]
  blk_simp
  rw [after0_8]
  idx_vars y
  refine (KPay.out8 _ _ _ _ _ _ _).trans (Eq.trans ?_ (HIDDEN_apply _ _ _ _ _ _ _).symm)
  exact Spec.hidden_congr (x0 V c t y0) (x4 V c t) (Spec.gates_congr (x0 V c t y0) (x1 V c t) (x2 V c t) (x3 V c t y0)) (x3 V c t y0) y1

/-- The array row of a row of a tile of the second pipeline. -/
def row1 (t : Fin cfg1.N) (r : Fin 1024) : Fin 6144 := ⟨t.val / 10 * 1024 + r.val, by have := (idx1 t).2.2.2.2.2.2.2; omega⟩

/-- The array column of a column of a tile of the second pipeline. -/
def col1 (t : Fin cfg1.N) (n : Fin 1024) : Fin 10240 := ⟨t.val % 10 * 1024 + n.val, by omega⟩

/-- The codes' block, at a row. -/
theorem z0 (c : Dev nD) (t : Fin cfg1.N) (r : Fin 1024) (k : Fin 8192) :
    (show FVec Ideal S1024x8192 .fp8e4m3 from iblk1 V c 0 t) (ix2 r k) = (show FVec Ideal S6144x8192 .fp8e4m3 from V c main_v3_0) (ix2 (row1 t r) k) := by
  blk_ext [iblk1, idx1 t, row1]

/-- The weights' block, at a column. -/
theorem z1 (c : Dev nD) (t : Fin cfg1.N) (n : Fin 1024) (k : Fin 8192) :
    (show FVec Ideal S8192x1024 .fp8e4m3 from iblk1 V c 1 t) (ix2 k n) = (show FVec Ideal S8192x10240 .fp8e4m3 from V c main_arg1) (ix2 k (col1 t n)) := by
  blk_ext [iblk1, idx1 t, col1]

/-- The rows' scales' block, at a row. -/
theorem z2 (c : Dev nD) (t : Fin cfg1.N) (r : Fin 1024) :
    (show FVec Ideal S1024x1 .f32 from iblk1 V c 2 t) (ix2 r 0) = (show FVec Ideal S6144x1 .f32 from V c main_v3_1) (ix2 (row1 t r) 0) := by
  blk_ext [iblk1, idx1 t, row1]

/-- The columns' scales' block, at a column. -/
theorem z3 (c : Dev nD) (t : Fin cfg1.N) (n : Fin 1024) :
    (show FVec Ideal S1x1024 .f32 from iblk1 V c 3 t) (ix2 0 n) = (show FVec Ideal S1x10240 .f32 from V c main_v4) (ix2 0 (col1 t n)) := by
  blk_ext [iblk1, idx1 t, col1]

/-- The hidden features' block, at a row. -/
theorem z4 (c : Dev nD) (t : Fin cfg1.N) (r : Fin 1024) (k : Fin 384) :
    (show FVec Ideal S1024x384 .bf16 from iblk1 V c 4 t) (ix2 r k) = (show FVec Ideal S6144x384 .bf16 from V c main_v3_3) (ix2 (row1 t r) k) := by
  blk_ext [iblk1, idx1 t, row1]

/-- The adapters' second factors' block, at a column. -/
theorem z5 (c : Dev nD) (t : Fin cfg1.N) (n : Fin 1024) (k : Fin 384) :
    (show FVec Ideal S384x1024 .bf16 from iblk1 V c 5 t) (ix2 k n) = (show FVec Ideal S384x10240 .bf16 from V c main_arg7) (ix2 k (col1 t n)) := by
  blk_ext [iblk1, idx1 t, col1]

/-- The second pipeline leaves the output. -/
theorem arrm (c : Dev nD) : (dat1 V c).arrAt 6 cfg1.N
    = OUT (V c main_v3_0) (V c main_arg1) (V c main_v3_1) (V c main_v4) (V c main_v3_3) (V c main_arg7) := by
  refine (dat1 V c).arrAt_eq_of_covers 6 _ (by decide +kernel) fun t _ y => ?_
  have he : ((cfg1.win 6).blk t).view.emb y = (ix2 (row1 t (y 0)) (col1 t (y 1)) : S6144x10240.Idx) := by blk_ext [idx1 t, row1, col1]
  rw [he]
  blk_simp
  rw [after1_6]
  idx_vars y
  refine (KPay.outm _ _ _ _ _ _ _ _).trans (Eq.trans ?_ (OUT_apply _ _ _ _ _ _ _ _).symm)
  exact Spec.out_congr (z0 V c t y0) (z1 V c t y1) (z2 V c t y0) (z3 V c t y1) (z4 V c t y0) (z5 V c t y1)

end Cert.KArr

end
-- ==== Proof.KMem.lean ====
module

public import proofs.«01_k».proof.Proof.KArr
public import Idealize.ShloMosaic.Lib.Claim

@[expose] public section

set_option maxRecDepth 16384

noncomputable section

namespace Cert.KMem

open Idealize.ShloMosaic Idealize.ShloMosaic.TcCoe Idealize.SL.Sem
open Cert.KernelIdeal Cert.KernelIdeal.Gen

section Stretches
variable (σ : Valuation τ sig (Elt Ideal))

/-- The first stretch leaves the activations, a token a row. -/
theorem st0_v0 : StableHlo.after (hostOps0 (F := Ideal)) σ (Proc.devRef .tc main_v0)
    = shapeCast S6144x8192 (σ (Proc.devRef .tc main_arg0)) shapeCasts_S3x2048x8192_S6144x8192 := by
  entry_read
  rfl

/-- The first stretch leaves the experts, a token a row. -/
theorem st0_v1 : StableHlo.after (hostOps0 (F := Ideal)) σ (Proc.devRef .tc main_v1)
    = shapeCast S6144x2 (σ (Proc.devRef .tc main_arg5)) shapeCasts_S3x2048x2_S6144x2 := by
  entry_read
  rfl

/-- The first stretch leaves the bias as a row. -/
theorem st0_v2 : StableHlo.after (hostOps0 (F := Ideal)) σ (Proc.devRef .tc main_v2)
    = shapeCast S1x16 (σ (Proc.devRef .tc main_arg4)) shapeCasts_S16_S1x16 := by
  entry_read
  rfl

/-- The second stretch leaves the columns' scales as a row. -/
theorem st1_v4 : StableHlo.after (hostOps1 (F := Ideal)) σ (Proc.devRef .tc main_v4)
    = shapeCast S1x10240 (σ (Proc.devRef .tc main_arg2)) shapeCasts_S10240_S1x10240 := by
  entry_read
  rfl

end Stretches

variable (m : (ℓ : Loc nD τ sig) → Buf (Elt Ideal) ℓ) (ρ : Dev nD → PrngReg)

/-- The activations at the first region. -/
theorem x_eq (c : Dev nD) : V1 m ρ c main_v0 = shapeCast S6144x8192 (m ((c : Thread nD τ).loc main_arg0)) shapeCasts_S3x2048x8192_S6144x8192 :=
  st0_v0 (W0 m ρ c)

/-- The experts at the first region. -/
theorem i_eq (c : Dev nD) : V1 m ρ c main_v1 = shapeCast S6144x2 (m ((c : Thread nD τ).loc main_arg5)) shapeCasts_S3x2048x2_S6144x2 :=
  st0_v1 (W0 m ρ c)

/-- The bias at the first region. -/
theorem b_eq (c : Dev nD) : V1 m ρ c main_v2 = shapeCast S1x16 (m ((c : Thread nD τ).loc main_arg4)) shapeCasts_S16_S1x16 :=
  st0_v2 (W0 m ρ c)

/-- The columns' scales at the second region. -/
theorem ws_eq (c : Dev nD) : V3 m ρ c main_v4 = shapeCast S1x10240 (m ((c : Thread nD τ).loc main_arg2)) shapeCasts_S10240_S1x10240 :=
  (st1_v4 (W2 m ρ c)).trans (by rw [W2_args m ρ c main_arg2 (by decide)])

/-- The first region's results at the second. -/
theorem mid (c : Dev nD) (w : Fin cfg0.W) (h : Pipeline.arrRef spec0 w ∉ hostOps1_W) :
    V3 m ρ c (Pipeline.arrRef spec0 w) = (dat0 (V1 m ρ) c).arrAt w cfg0.N :=
  (W3_of m ρ c _ h).trans (W2_arr m ρ c w)

/-- The codes the kernel leaves. -/
theorem codes (c : Dev nD) : (dat0 (V1 m ρ) c).arrAt 5 cfg0.N
    = KArr.CODES (shapeCast S6144x8192 (m ((c : Thread nD τ).loc main_arg0)) shapeCasts_S3x2048x8192_S6144x8192) := by
  rw [KArr.arr5, x_eq]

/-- The scales the kernel leaves. -/
theorem scales (c : Dev nD) : (dat0 (V1 m ρ) c).arrAt 6 cfg0.N
    = KArr.SCALES (shapeCast S6144x8192 (m ((c : Thread nD τ).loc main_arg0)) shapeCasts_S3x2048x8192_S6144x8192) := by
  rw [KArr.arr6, x_eq]

/-- The gates the kernel leaves. -/
theorem gates (c : Dev nD) : (dat0 (V1 m ρ) c).arrAt 7 cfg0.N
    = KArr.GATES (shapeCast S6144x8192 (m ((c : Thread nD τ).loc main_arg0)) shapeCasts_S3x2048x8192_S6144x8192)
        (m ((c : Thread nD τ).loc main_arg3)) (shapeCast S1x16 (m ((c : Thread nD τ).loc main_arg4)) shapeCasts_S16_S1x16)
        (shapeCast S6144x2 (m ((c : Thread nD τ).loc main_arg5)) shapeCasts_S3x2048x2_S6144x2) := by
  have h3 : V1 m ρ c main_arg3 = m ((c : Thread nD τ).loc main_arg3) := W1_args m ρ c main_arg3 (by decide)
  rw [KArr.arr7, x_eq, h3, b_eq, i_eq]

/-- The hidden features the kernel leaves. -/
theorem hidden (c : Dev nD) : (dat0 (V1 m ρ) c).arrAt 8 cfg0.N
    = KArr.HIDDEN (shapeCast S6144x8192 (m ((c : Thread nD τ).loc main_arg0)) shapeCasts_S3x2048x8192_S6144x8192)
        (m ((c : Thread nD τ).loc main_arg3)) (shapeCast S1x16 (m ((c : Thread nD τ).loc main_arg4)) shapeCasts_S16_S1x16)
        (shapeCast S6144x2 (m ((c : Thread nD τ).loc main_arg5)) shapeCasts_S3x2048x2_S6144x2) (m ((c : Thread nD τ).loc main_arg6)) := by
  have h3 : V1 m ρ c main_arg3 = m ((c : Thread nD τ).loc main_arg3) := W1_args m ρ c main_arg3 (by decide)
  have h6 : V1 m ρ c main_arg6 = m ((c : Thread nD τ).loc main_arg6) := W1_args m ρ c main_arg6 (by decide)
  rw [KArr.arr8, x_eq, h3, h6, b_eq, i_eq]

/-- The output the kernel leaves. -/
theorem output (c : Dev nD) : (dat1 (V3 m ρ) c).arrAt 6 cfg1.N
    = KArr.OUT ((dat0 (V1 m ρ) c).arrAt 5 cfg0.N) (m ((c : Thread nD τ).loc main_arg1)) ((dat0 (V1 m ρ) c).arrAt 6 cfg0.N)
        (shapeCast S1x10240 (m ((c : Thread nD τ).loc main_arg2)) shapeCasts_S10240_S1x10240) ((dat0 (V1 m ρ) c).arrAt 8 cfg0.N)
        (m ((c : Thread nD τ).loc main_arg7)) := by
  have h1 : V3 m ρ c main_arg1 = m ((c : Thread nD τ).loc main_arg1) := W3_args m ρ c main_arg1 (by decide)
  have h7 : V3 m ρ c main_arg7 = m ((c : Thread nD τ).loc main_arg7) := W3_args m ρ c main_arg7 (by decide)
  have e0 : V3 m ρ c main_v3_0 = (dat0 (V1 m ρ) c).arrAt 5 cfg0.N := mid m ρ c 5 (by decide)
  have e1 : V3 m ρ c main_v3_1 = (dat0 (V1 m ρ) c).arrAt 6 cfg0.N := mid m ρ c 6 (by decide)
  have e3 : V3 m ρ c main_v3_3 = (dat0 (V1 m ρ) c).arrAt 8 cfg0.N := mid m ρ c 8 (by decide)
  rw [KArr.arrm, h1, h7, e0, e1, e3, ws_eq]

end Cert.KMem

end
-- ==== Proof.Bound.lean ====
module

public import proofs.«01_k».proof.Proof.Spec

@[expose] public section

set_option maxRecDepth 16384

noncomputable section

namespace Cert.Bound

open Idealize.ShloMosaic

/-- The greatest finite bf16, as a real. -/
theorem bf16_max : Ideal.ofBits .bf16 0x7F7F#16 = (((255 : ℝ) * 2 ^ (120 : ℕ) : ℝ) : EReal) := by
  unfold Ideal.ofBits Ideal.ieee
  have e1 : ((0x7F7F#16).extractLsb' 7 8).toNat = 254 := by decide
  have e2 : ((0x7F7F#16).extractLsb' 0 7).toNat = 127 := by decide
  have e3 : ((0x7F7F#16).extractLsb' 15 1 == 1#1) = false := by decide
  simp only [e1, e2, Nat.reduceAdd, e3]
  norm_num

/-- The f32 nearest the reciprocal of 448, as a real. -/
theorem recip : Ideal.ofBits .f32 0x3B124925#32 = (((9586981 : ℝ) / 2 ^ (32 : ℕ) : ℝ) : EReal) := by
  unfold Ideal.ofBits Ideal.ieee
  have e1 : ((0x3B124925#32).extractLsb' 23 8).toNat = 118 := by decide
  have e2 : ((0x3B124925#32).extractLsb' 0 23).toNat = 1198373 := by decide
  have e3 : ((0x3B124925#32).extractLsb' 31 1 == 1#1) = false := by decide
  simp only [e1, e2, Nat.reduceAdd, e3]
  norm_num

/-- The greatest absolute value is not negative. -/
theorem amax_nonneg (x : Fin 8192 → EReal) : 0 ≤ Spec.amax x := by
  unfold Spec.amax
  rw [Finset.le_fold_max]
  right
  refine ⟨0, Finset.mem_univ _, ?_⟩
  rcases le_total 0 (x 0) with h | h
  · exact le_max_of_le_left h
  · exact le_max_of_le_right (EReal.neg_nonneg.2 h)

/-- It is at most a bound of them all. -/
theorem amax_le {x : Fin 8192 → EReal} {M : EReal} (h : ∀ k, max (x k) (-(x k)) ≤ M) : Spec.amax x ≤ M := by
  unfold Spec.amax
  rw [Finset.fold_max_le]
  exact ⟨bot_le, fun k _ => h k⟩

/-- A row of finite bf16 values has a finite quotient of a normal exponent. -/
theorem quot_bounds {x : Fin 8192 → EReal} (h : ∀ k, max (x k) (-(x k)) ≤ Ideal.ofBits .bf16 0x7F7F#16) :
    0 ≤ Spec.quot x ∧ Spec.quot x < Scale.pw 253 ∧ (Spec.amax x = 0 → Spec.quot x = 0) := by
  have h0 := amax_nonneg x
  have h1 := amax_le h
  rw [bf16_max] at h1
  unfold Spec.quot
  rw [recip, Scale.pw_normal (by norm_num) (by norm_num)]
  generalize Spec.amax x = a at *
  lift a to ℝ using ⟨fun e => by rw [e] at h1; exact absurd h1 (not_le.2 (EReal.coe_lt_top _)), fun e => by rw [e] at h0; exact absurd h0 (not_le.2 (EReal.bot_lt_zero))⟩
  have h0' : (0 : ℝ) ≤ a := by exact_mod_cast h0
  have h1' : a ≤ 255 * 2 ^ (120 : ℕ) := by exact_mod_cast h1
  refine ⟨?_, ?_, ?_⟩
  · rw [← EReal.coe_mul]
    exact_mod_cast (by positivity : (0 : ℝ) ≤ a * (9586981 / 2 ^ 32))
  · rw [← EReal.coe_mul, EReal.coe_lt_coe_iff]
    norm_num at h1' ⊢
    linarith
  · intro e
    rw [e, zero_mul]

/-- The kernel's scale of a row of finite values is the reference's. -/
theorem kscale_eq {x : Fin 8192 → EReal} (h : ∀ k, max (x k) (-(x k)) ≤ Ideal.ofBits .bf16 0x7F7F#16) :
    Spec.kscale x = Spec.scale x := by
  obtain ⟨h0, h1, h2⟩ := quot_bounds h
  exact (Scale.kscale_eq h0 h1 h2).1

/-- The kernel's codes of a row of finite values are the reference's. -/
theorem kcode_eq {x : Fin 8192 → EReal} (h : ∀ k, max (x k) (-(x k)) ≤ Ideal.ofBits .bf16 0x7F7F#16) (k : Fin 8192) :
    Spec.kcode x k = Spec.code x k := by
  obtain ⟨h0, h1, h2⟩ := quot_bounds h
  unfold Spec.kcode Spec.code Spec.scale
  rw [(Scale.kscale_eq h0 h1 h2).2]

end Cert.Bound

end
-- ==== Proof.Tok.lean ====
module

public import proofs.«01_k».proof.Proof.RArr
public import proofs.«01_k».proof.Proof.KMem
public import proofs.«01_k».proof.Proof.Bound

@[expose] public section

set_option maxRecDepth 16384

noncomputable section

namespace Cert.Tok

open Idealize.ShloMosaic Idealize.ShloMosaic.TcCoe Idealize.SL.Sem
open Cert.ReferenceIdeal
open Cert.KernelIdeal (S6144x384 S1x16)

variable (X : FVec Ideal S3x2048x8192 .bf16) (W : FVec Ideal S8192x10240 .fp8e4m3) (WS : FVec Ideal S10240 .f32) (RW : FVec Ideal S8192x16 .bf16)
  (RB : FVec Ideal S16 .f32) (I : IVec S3x2048x2 32) (LA : FVec Ideal S8192x384 .bf16) (LB : FVec Ideal S384x10240 .bf16)

/-- The activations of a token. -/
def row (r : Fin 6144) : Fin 8192 → EReal := fun k => X (ix3 (RVal.tokb r) (RVal.toks r) k)

/-- The experts of a token. -/
def exps (r : Fin 6144) : Fin 2 → BitVec 32 := fun j => I (ix3 (RVal.tokb r) (RVal.toks r) j)

/-- The gates of a token. -/
def gts (r : Fin 6144) : Fin 2 → EReal := Spec.gates (row X r) (fun k e => RW (ix2 k e)) (fun e => RB (ix1 e)) (exps I r)

/-- The hidden features of a token. -/
def hid (r : Fin 6144) : Fin 384 → EReal := Spec.hidden (row X r) (fun k c => LA (ix2 k c)) (gts X RW RB I r) (exps I r)

/-- The codes, in the arguments. -/
def CODES : FVec Ideal S6144x8192 .fp8e4m3 := fun i => Spec.code (row X (i 0)) (i 1)

/-- The scales, in the arguments. -/
def SCALES : FVec Ideal S6144x1 .f32 := fun i => Spec.scale (row X (i 0))

/-- The gates, in the arguments. -/
def GATES : FVec Ideal S6144x2 .f32 := fun i => gts X RW RB I (i 0) (i 1)

/-- The hidden features, in the arguments. -/
def HIDDEN : FVec Ideal S6144x384 .bf16 := fun i => hid X RW RB I LA (i 0) (i 1)

/-- The output, in the arguments. -/
def OUT : FVec Ideal S6144x10240 .bf16 := fun i =>
  Spec.out (Spec.code (row X (i 0))) (fun k => W (ix2 k (i 1))) (Spec.scale (row X (i 0))) (WS (ix1 (i 1))) (hid X RW RB I LA (i 0))
    (fun c => LB (ix2 c (i 1)))

/-- The activations laid a token a row. -/
theorem x_row (h : S3x2048x8192.ShapeCasts S6144x8192) (r : Fin 6144) (k : Fin 8192) :
    shapeCast S6144x8192 X h (ix2 r k) = row X r k := by
  unfold row
  pointwise []

/-- The experts laid a token a row. -/
theorem i_row (h : S3x2048x2.ShapeCasts S6144x2) (r : Fin 6144) (j : Fin 2) : shapeCast S6144x2 I h (ix2 r j) = exps I r j := by
  unfold exps
  pointwise []

/-- The gates laid a token a row. -/
theorem g_row (G : FVec Ideal S3x2048x2 .f32) (h : S3x2048x2.ShapeCasts S6144x2) (r : Fin 6144) (j : Fin 2) :
    shapeCast S6144x2 G h (ix2 r j) = G (ix3 (RVal.tokb r) (RVal.toks r) j) := by
  pointwise []

/-- The scales laid a token a row. -/
theorem s_row (S : FVec Ideal S3x2048 .f32) (h : S3x2048.ShapeCasts S6144x1) (r : Fin 6144) :
    shapeCast S6144x1 S h (ix2 r 0) = S (ix2 (RVal.tokb r) (RVal.toks r)) := by
  pointwise []

/-- The bias as a row. -/
theorem b_row (h : S16.ShapeCasts S1x16) (e : Fin 16) : shapeCast S1x16 RB h (ix2 0 e) = RB (ix1 e) := by
  pointwise []

/-- The columns' scales as a row. -/
theorem ws_row (h : S10240.ShapeCasts S1x10240) (n : Fin 10240) : shapeCast S1x10240 WS h (ix2 0 n) = WS (ix1 n) := by
  pointwise []

section Kernel
variable (hX : S3x2048x8192.ShapeCasts S6144x8192) (hI : S3x2048x2.ShapeCasts S6144x2) (hB : S16.ShapeCasts S1x16) (hW : S10240.ShapeCasts S1x10240)

/-- The kernel's codes of finite activations. -/
theorem kcodes (hx : ∀ b s k, max (X (ix3 b s k)) (-(X (ix3 b s k))) ≤ Ideal.ofBits .bf16 0x7F7F#16) :
    KArr.CODES (shapeCast S6144x8192 X hX) = CODES X := by
  funext i
  have h := funext (x_row X hX (i 0))
  exact (congrArg (fun x => Spec.kcode x (i 1)) h).trans (Bound.kcode_eq (fun k => hx _ _ k) _)

/-- The kernel's scales of finite activations. -/
theorem kscales (hx : ∀ b s k, max (X (ix3 b s k)) (-(X (ix3 b s k))) ≤ Ideal.ofBits .bf16 0x7F7F#16) :
    KArr.SCALES (shapeCast S6144x8192 X hX) = SCALES X := by
  funext i
  have h := funext (x_row X hX (i 0))
  exact (congrArg Spec.kscale h).trans (Bound.kscale_eq fun k => hx _ _ k)

/-- The kernel's gates. -/
theorem kgates : KArr.GATES (shapeCast S6144x8192 X hX) RW (shapeCast S1x16 RB hB) (shapeCast S6144x2 I hI) = GATES X RW RB I := by
  funext i
  exact congrFun (Spec.gates_congr (x_row X hX (i 0)) (fun _ _ => rfl) (b_row RB hB) (i_row I hI (i 0))) (i 1)

/-- The kernel's hidden features. -/
theorem khidden : KArr.HIDDEN (shapeCast S6144x8192 X hX) RW (shapeCast S1x16 RB hB) (shapeCast S6144x2 I hI) LA = HIDDEN X RW RB I LA := by
  funext i
  exact Spec.hidden_congr (x_row X hX (i 0)) (fun _ _ => rfl)
    (Spec.gates_congr (x_row X hX (i 0)) (fun _ _ => rfl) (b_row RB hB) (i_row I hI (i 0))) (i_row I hI (i 0)) (i 1)

/-- The kernel's output. -/
theorem kout : KArr.OUT (CODES X) W (SCALES X) (shapeCast S1x10240 WS hW) (HIDDEN X RW RB I LA) LB = OUT X W WS RW RB I LA LB := by
  funext i
  exact Spec.out_congr (fun _ => rfl) (fun _ => rfl) rfl (ws_row WS hW (i 1)) (fun _ => rfl) (fun _ => rfl)

end Kernel

section Reference
variable (hX : S3x2048x8192.ShapeCasts S6144x8192) (hG : S3x2048x2.ShapeCasts S6144x2) (hS : S3x2048.ShapeCasts S6144x1) (hW : S10240.ShapeCasts S1x10240)

/-- The reference's scales. -/
theorem rscales : shapeCast S6144x1 (Ref.SCALE (Ref.QUOT X)) hS = SCALES X := by
  funext i
  idx_vars i
  obtain rfl : i1 = 0 := Subsingleton.elim _ _
  rw [s_row, RVal.scale, RVal.quot]
  rfl

/-- The reference's codes. -/
theorem rcodes : RArr.CODES (shapeCast S6144x8192 X hX) (SCALES X) = CODES X := by
  funext i
  idx_vars i
  rw [RArr.CODES_apply, x_row]
  rfl

variable (hi : ∀ b s j, ∃ e : Fin 16, I (ix3 b s j) = BitVec.ofNat 32 e.val)
include hi

/-- The reference's gates of experts in range. -/
theorem rgates_at (b : Fin 3) (s : Fin 2048) (j : Fin 2) :
    Ref.GATES (Ref.TAKE (Ref.PROBS (Ref.EXPS (Ref.LOGITS X RW RB))) (Ref.WRAP I)) (ix3 b s j)
      = Spec.gates (fun k => X (ix3 b s k)) (fun k e => RW (ix2 k e)) (fun e => RB (ix1 e)) (fun j => I (ix3 b s j)) j := by
  choose e he using hi b s
  exact RVal.gates_row X RW RB I b s e he j

/-- The reference's gates. -/
theorem rgates : shapeCast S6144x2 (Ref.GATES (Ref.TAKE (Ref.PROBS (Ref.EXPS (Ref.LOGITS X RW RB))) (Ref.WRAP I))) hG = GATES X RW RB I := by
  funext i
  idx_vars i
  rw [g_row, rgates_at X RW RB I hi]
  rfl

/-- The reference's output. -/
theorem rout : RArr.OUT (CODES X) (SCALES X) W (shapeCast S1x10240 WS hW)
    (Ref.LORA (Ref.HIDDEN X LA (Ref.WEIGHT I (Ref.GATES (Ref.TAKE (Ref.PROBS (Ref.EXPS (Ref.LOGITS X RW RB))) (Ref.WRAP I))))
      (Ref.COLS (constantI S384 1 0#1) Ref.CTABLE)) LB) = OUT X W WS RW RB I LA LB := by
  funext i
  idx_vars i
  have hg (b : Fin 3) (s : Fin 2048) := funext (rgates_at X RW RB I hi b s)
  rw [RArr.OUT_apply, ws_row, RVal.lora]
  simp only [RVal.hidden X LA I _ (Ref.COLS (constantI S384 1 0#1) Ref.CTABLE) (fun c => RVal.cols c 0), hg]
  exact Spec.out_congr (fun _ => rfl) (fun _ => rfl) rfl rfl (fun _ => rfl) (fun _ => rfl)

end Reference

end Cert.Tok

end
-- ==== Proof.Finals.lean ====
module

public import proofs.«01_k».proof.Proof.Tok
public import proofs.«01_k».proof.Proof.KernelRun
public import proofs.«01_k».proof.Proof.Gen.ReferenceIdeal.Value

@[expose] public section

set_option maxRecDepth 16384

noncomputable section

namespace Cert.Finals

open Idealize.ShloMosaic Idealize.ShloMosaic.TcCoe Idealize.SL.Sem

section Kernel
open Cert.KernelIdeal Cert.KernelIdeal.Gen

variable (m : (ℓ : Loc nD τ sig) → Buf (Elt Ideal) ℓ) (ρ : Dev nD → PrngReg) (c : Dev nD)

/-- The kernel's codes, in the arguments. -/
theorem kcodes (hx : ∀ b s k, max ((show FVec Ideal S3x2048x8192 .bf16 from m ((c : Thread nD τ).loc main_arg0)) (ix3 b s k))
      (-((show FVec Ideal S3x2048x8192 .bf16 from m ((c : Thread nD τ).loc main_arg0)) (ix3 b s k))) ≤ Ideal.ofBits .bf16 0x7F7F#16) :
    (dat0 (V1 m ρ) c).arrAt 5 cfg0.N = Tok.CODES (m ((c : Thread nD τ).loc main_arg0)) :=
  (KMem.codes m ρ c).trans (Tok.kcodes _ _ hx)

/-- The kernel's scales, in the arguments. -/
theorem kscales (hx : ∀ b s k, max ((show FVec Ideal S3x2048x8192 .bf16 from m ((c : Thread nD τ).loc main_arg0)) (ix3 b s k))
      (-((show FVec Ideal S3x2048x8192 .bf16 from m ((c : Thread nD τ).loc main_arg0)) (ix3 b s k))) ≤ Ideal.ofBits .bf16 0x7F7F#16) :
    (dat0 (V1 m ρ) c).arrAt 6 cfg0.N = Tok.SCALES (m ((c : Thread nD τ).loc main_arg0)) :=
  (KMem.scales m ρ c).trans (Tok.kscales _ _ hx)

/-- The kernel's gates, in the arguments. -/
theorem kgates : (dat0 (V1 m ρ) c).arrAt 7 cfg0.N = Tok.GATES (m ((c : Thread nD τ).loc main_arg0)) (m ((c : Thread nD τ).loc main_arg3))
      (m ((c : Thread nD τ).loc main_arg4)) (m ((c : Thread nD τ).loc main_arg5)) :=
  (KMem.gates m ρ c).trans (Tok.kgates _ _ _ _ _ _ _)

/-- The kernel's hidden features, in the arguments. -/
theorem khidden : (dat0 (V1 m ρ) c).arrAt 8 cfg0.N = Tok.HIDDEN (m ((c : Thread nD τ).loc main_arg0)) (m ((c : Thread nD τ).loc main_arg3))
      (m ((c : Thread nD τ).loc main_arg4)) (m ((c : Thread nD τ).loc main_arg5)) (m ((c : Thread nD τ).loc main_arg6)) :=
  (KMem.hidden m ρ c).trans (Tok.khidden _ _ _ _ _ _ _ _)

/-- The kernel's output, in the arguments. -/
theorem kout (hx : ∀ b s k, max ((show FVec Ideal S3x2048x8192 .bf16 from m ((c : Thread nD τ).loc main_arg0)) (ix3 b s k))
      (-((show FVec Ideal S3x2048x8192 .bf16 from m ((c : Thread nD τ).loc main_arg0)) (ix3 b s k))) ≤ Ideal.ofBits .bf16 0x7F7F#16) :
    (dat1 (V3 m ρ) c).arrAt 6 cfg1.N = Tok.OUT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (KMem.output m ρ c).trans ?_
  rw [kcodes m ρ c hx, kscales m ρ c hx, khidden m ρ c]
  exact Tok.kout _ _ _ _ _ _ _ _ _

end Kernel

section Reference
open Cert.ReferenceIdeal Cert.ReferenceIdeal.Gen Cert.ReferenceIdeal.Value

variable (m : (ℓ : Loc nD τ sig) → Buf (Elt Ideal) ℓ) (ρ : Dev nD → PrngReg) (c : Dev nD)

/-- The reference's scales, in the arguments. -/
theorem rscales : V m c main_v59 = Tok.SCALES (m ((c : Thread nD τ).loc main_arg0)) :=
  (Ref.V_scale m c).trans (Tok.rscales _ _)

/-- The reference's codes, in the arguments. -/
theorem rcodes : RArr.CODES (V m c main_v60) (V m c main_v59) = Tok.CODES (m ((c : Thread nD τ).loc main_arg0)) := by
  rw [rscales m c, Ref.V_x m c]
  exact Tok.rcodes _ _

variable (hi : ∀ b s j, ∃ e : Fin 16, (show IVec S3x2048x2 32 from m ((c : Thread nD τ).loc main_arg5)) (ix3 b s j) = BitVec.ofNat 32 e.val)
include hi

/-- The reference's gates, in the arguments. -/
theorem rgates : V m c main_v58 = Tok.GATES (m ((c : Thread nD τ).loc main_arg0)) (m ((c : Thread nD τ).loc main_arg3))
      (m ((c : Thread nD τ).loc main_arg4)) (m ((c : Thread nD τ).loc main_arg5)) :=
  (Ref.V_gates m c).trans (Tok.rgates _ _ _ _ _ hi)

/-- The reference's output, in the arguments. -/
theorem rout : (dats m 0 c).arrAt 6 cfg0.N = Tok.OUT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (RArr.arr6 m c).trans ?_
  rw [rcodes m c, rscales m c, Ref.V_ws m c, Ref.V_lora m c, V_main_arg1 m c]
  exact Tok.rout _ _ _ _ _ _ _ _ _ hi

end Reference

end Cert.Finals

end
-- ==== Proof.Pre.lean ====
module

public import proofs.«01_k».proof.Proof.Gen.Pre_valid
public import Idealize.ShloMosaic.Lib.ReduceAll
public import Idealize.ShloMosaic.Lib.Pointwise
public import Idealize.ShloMosaic.PureOps.Ideal

@[expose] public section

set_option maxRecDepth 16384

noncomputable section

namespace Cert.Pre

open Idealize.ShloMosaic
open Cert.Pre_valid Cert.Pre_valid.Gen

/-- The scalar shape has one index. -/
instance : Subsingleton S_.Idx := ⟨fun a b => funext fun i => i.elim0⟩

/-- A conjunction of bits is one when both are. -/
theorem andi_one {a b : BitVec 1} (h : IntOp.andi a b = 1#1) : a = 1#1 ∧ b = 1#1 := IntOp.andi_eq_one.1 h

/-- The bit of a truth is one only when it is true. -/
theorem of_bit {b : Bool} (h : BitVec.ofBool b = 1#1) : b = true := by
  revert h
  cases b <;> decide

/-- A word from 0 to 15, read as a signed number, is that of an expert. -/
theorem expert {w : BitVec 32} (h0 : IntOp.cmpi .sge w 0#32 = 1#1) (h1 : IntOp.cmpi .slt w 16#32 = 1#1) :
    ∃ e : Fin 16, w = BitVec.ofNat 32 e.val := by
  have h : w.toNat < 16 := by
    unfold IntOp.cmpi at h0 h1
    replace h0 := of_bit h0
    replace h1 := of_bit h1
    simp only [BitVec.sle_eq_decide, BitVec.slt_eq_decide, decide_eq_true_eq] at h0 h1
    have e16 : (16#32).toInt = 16 := by decide
    have e0 : (0#32).toInt = 0 := by decide
    rw [e16] at h1
    rw [e0] at h0
    rw [BitVec.toInt_eq_toNat_cond] at h0 h1
    split at h0 <;> split at h1 <;> omega
  exact ⟨⟨w.toNat, h⟩, by simp⟩

variable (a0 : FVec Ideal S3x2048x8192 .bf16) (a1 : FVec Ideal S8192x10240 .fp8e4m3) (a2 : FVec Ideal S10240 .f32) (a3 : FVec Ideal S8192x16 .bf16)
  (a4 : FVec Ideal S16 .f32) (a5 : IVec S3x2048x2 32) (a6 : FVec Ideal S8192x384 .bf16) (a7 : FVec Ideal S384x10240 .bf16)

/-- What the precondition says: the activations are at most the greatest finite bf16 and the experts are in range. -/
theorem of_valid (h : Cert.Pre_valid.fn a0 a1 a2 a3 a4 a5 a6 a7 = fun _ => 1#1) :
    (∀ b s k, max (a0 (ix3 b s k)) (-(a0 (ix3 b s k))) ≤ Ideal.ofBits .bf16 0x7F7F#16)
      ∧ ∀ b s j, ∃ e : Fin 16, a5 (ix3 b s j) = BitVec.ofNat 32 e.val := by
  unfold Cert.Pre_valid.fn at h
  dsimp only at h
  obtain ⟨h1, h2⟩ := andi_one (congrFun h (Shape.Idx.first h_S_))
  refine ⟨fun b s k => ?_, fun b s j => ?_⟩
  · have h := Host.reduce_andi_all _ _ _ _ _ h1 (ix3 b s k)
    have h' : BitVec.ofBool (decide (max (a0 (ix3 b s k)) (-(a0 (ix3 b s k))) ≤ Ideal.ofBits .bf16 0x7F7F#16)) = 1#1 := h
    exact of_decide_eq_true (of_bit h')
  · have h := Host.reduce_andi_all _ _ _ _ _ h2 (ix3 b s j)
    obtain ⟨g0, g1⟩ := andi_one h
    exact expert g0 g1

end Cert.Pre

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_valid
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.KernelRun
public import proofs.«01_k».proof.Proof.Finals
public import proofs.«01_k».proof.Proof.Pre

@[expose] public section

noncomputable section

namespace Cert.Proof

open Idealize.ShloMosaic Idealize.ShloMosaic.TcCoe Idealize.SL.Sem

section Reference
open Cert.ReferenceIdeal Cert.ReferenceIdeal.Gen Cert.ReferenceIdeal.Value

/-- The reference runs and leaves the four results of the plain mathematics, its arguments unchanged. -/
theorem reference (m : (ℓ : Loc nD τ sig) → Buf (Elt Ideal) ℓ) (ρ : Dev nD → PrngReg)
    (hi : ∀ c : Dev nD, ∀ b s j, ∃ e : Fin 16, (show IVec S3x2048x2 32 from m ((c : Thread nD τ).loc main_arg5)) (ix3 b s j) = BitVec.ofNat 32 e.val) :
    θ_run defs (onTc (τ := τ) (main (F := Ideal))) ⟨m, fun _ => 0, ρ⟩ fun r => ∀ c : Dev nD,
      r.2.mem ((c : Thread nD τ).loc main_v63_1) = Tok.OUT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_v58) = Tok.GATES (m ((c : Thread nD τ).loc main_arg0)) (m ((c : Thread nD τ).loc main_arg3))
        (m ((c : Thread nD τ).loc main_arg4)) (m ((c : Thread nD τ).loc main_arg5))
      ∧ r.2.mem ((c : Thread nD τ).loc main_v63_0) = Tok.CODES (m ((c : Thread nD τ).loc main_arg0))
      ∧ r.2.mem ((c : Thread nD τ).loc main_v59) = Tok.SCALES (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post6 m r h c).trans (Finals.rout m c (hi c)),
      ((h c).2 main_v58 (Pipeline.mem_restRefs_of main_v58 (by decide) (by decide))).trans (Finals.rgates m c (hi c)),
      ((post5 m r h c).trans (RArr.arr5 m c)).trans (Finals.rcodes m c),
      ((h c).1 2).trans (((dats m 0 c).arrAt_in 2 rfl _).trans ((A_eq m c 2).trans (Finals.rscales m c))),
      kept_main_arg0 m r h c, kept_main_arg1 m r h c, kept_main_arg2 m r h c, kept_main_arg3 m r h c,
      kept_main_arg4 m r h c, kept_main_arg5 m r h c, kept_main_arg6 m r h c, kept_main_arg7 m r h c⟩)
    (run_main m ρ)

end Reference

/-- The kernel and the reference end with equal results: the output, the gates, the codes and the scales. -/
theorem algebraic : Cert.algebraic_KernelIdeal_ReferenceIdeal_pre_valid := by
  intro m g m' g' hpre hag
  have hp := fun c => Cert.Pre.of_valid _ _ _ _ _ _ _ _ (hpre c)
  refine ⟨fun c => Tok.OUT (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7)),
    fun c => Tok.GATES (m ((c.tc : Thread _ _).loc Cert.KernelIdeal.main_arg0)) (m ((c.tc : Thread _ _).loc Cert.KernelIdeal.main_arg3))
      (m ((c.tc : Thread _ _).loc Cert.KernelIdeal.main_arg4)) (m ((c.tc : Thread _ _).loc Cert.KernelIdeal.main_arg5)),
    fun c => Tok.CODES (m ((c.tc : Thread _ _).loc Cert.KernelIdeal.main_arg0)),
    fun c => Tok.SCALES (m ((c.tc : Thread _ _).loc Cert.KernelIdeal.main_arg0)), ?_, ?_⟩
  · refine (θ_run _ _ _).mono (fun r h c => ?_) (Cert.KernelIdeal.Run.run m g)
    obtain ⟨h0, h1, h2, h3, ha⟩ := h c
    exact ⟨h0.trans (Finals.kout m g c (hp c).1), h1.trans (Finals.kgates m g c), h2.trans (Finals.kcodes m g c (hp c).1),
      h3.trans (Finals.kscales m g c (hp c).1), ha⟩
  · refine (θ_run _ _ _).mono (fun r h c => ?_) (reference m' g' fun c => ?_)
    · obtain ⟨h0, h1, h2, h3, ha⟩ := h c
      obtain ⟨a0, a1, a2, a3, a4, a5, a6, a7⟩ := hag c
      refine ⟨h0.trans ?_, h1.trans ?_, h2.trans ?_, h3.trans ?_, ha⟩
      · rw [a0, a1, a2, a3, a4, a5, a6, a7]
      · rw [a0, a3, a4, a5]
      · rw [a0]
      · rw [a0]
    · obtain ⟨a0, a1, a2, a3, a4, a5, a6, a7⟩ := hag c
      rw [a5]
      exact (hp c).2

/-- The claims of this proof, assembled. -/
theorem claim : Cert.Claim :=
  ⟨Cert.Kernel.Gen.facts, Cert.KernelIdeal.Gen.facts, Cert.ReferenceIdeal.Gen.facts, Cert.Pre_valid.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, algebraic⟩

end Cert.Proof

end
